-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x14336 : Shape := ⟨3, ![1, 128, 14336]⟩
abbrev S14336x2048 : Shape := ⟨2, ![14336, 2048]⟩
abbrev S14336x64 : Shape := ⟨2, ![14336, 64]⟩
abbrev S3584 : Shape := ⟨1, ![3584]⟩
abbrev S1 : Shape := ⟨1, ![1]⟩
abbrev S2x32x128 : Shape := ⟨3, ![2, 32, 128]⟩
abbrev S128x14336 : Shape := ⟨2, ![128, 14336]⟩
abbrev S28x128 : Shape := ⟨2, ![28, 128]⟩
abbrev S128x4096 : Shape := ⟨2, ![128, 4096]⟩
abbrev S128x1024 : Shape := ⟨2, ![128, 1024]⟩
abbrev S1024x2048 : Shape := ⟨2, ![1024, 2048]⟩
abbrev S1024x64 : Shape := ⟨2, ![1024, 64]⟩
abbrev S512x128 : Shape := ⟨2, ![512, 128]⟩
abbrev S1024x256 : Shape := ⟨2, ![1024, 256]⟩
abbrev S8x128 : Shape := ⟨2, ![8, 128]⟩
abbrev S16x128 : Shape := ⟨2, ![16, 128]⟩
abbrev S1x128 : Shape := ⟨2, ![1, 128]⟩
abbrev S8x128x1 : Shape := ⟨3, ![8, 128, 1]⟩
abbrev S32x64 : Shape := ⟨2, ![32, 64]⟩
abbrev S32x128 : Shape := ⟨2, ![32, 128]⟩
abbrev S1x32x128 : Shape := ⟨3, ![1, 32, 128]⟩
abbrev S64x128 : Shape := ⟨2, ![64, 128]⟩
abbrev S32x128x1 : Shape := ⟨3, ![32, 128, 1]⟩
abbrev S16x128x1 : Shape := ⟨3, ![16, 128, 1]⟩
abbrev S128x256 : Shape := ⟨2, ![128, 256]⟩

abbrev nBuf : Space → Nat
  | .hbm => 9
  | .vmem => 13
  | .smem => 1
  | _ => 0

abbrev bufTy : (tb : Table) → Fin (tcTables nBuf tb) → BufTy
  | .hbm, ⟨0, _⟩ => ⟨S1x128x14336, .bf16⟩
  | .hbm, ⟨1, _⟩ => ⟨S14336x2048, .i8⟩
  | .hbm, ⟨2, _⟩ => ⟨S14336x64, .i8⟩
  | .hbm, ⟨3, _⟩ => ⟨S3584, .f32⟩
  | .hbm, ⟨4, _⟩ => ⟨S1, .f32⟩
  | .hbm, ⟨5, _⟩ => ⟨S2x32x128, .i8⟩
  | .hbm, ⟨6, _⟩ => ⟨S128x14336, .bf16⟩
  | .hbm, ⟨7, _⟩ => ⟨S28x128, .f32⟩
  | .hbm, ⟨8, _⟩ => ⟨S128x4096, .bf16⟩
  | .local _ .vmem, ⟨0, _⟩ => ⟨S128x1024, .bf16⟩
  | .local _ .vmem, ⟨1, _⟩ => ⟨S128x1024, .bf16⟩
  | .local _ .vmem, ⟨2, _⟩ => ⟨S1024x2048, .i8⟩
  | .local _ .vmem, ⟨3, _⟩ => ⟨S1024x2048, .i8⟩
  | .local _ .vmem, ⟨4, _⟩ => ⟨S1024x64, .i8⟩
  | .local _ .vmem, ⟨5, _⟩ => ⟨S1024x64, .i8⟩
  | .local _ .vmem, ⟨6, _⟩ => ⟨S28x128, .f32⟩
  | .local _ .vmem, ⟨7, _⟩ => ⟨S2x32x128, .i8⟩
  | .local _ .vmem, ⟨8, _⟩ => ⟨S128x4096, .bf16⟩
  | .local _ .vmem, ⟨9, _⟩ => ⟨S128x4096, .f32⟩
  | .local _ .vmem, ⟨10, _⟩ => ⟨S512x128, .bf16⟩
  | .local _ .vmem, ⟨11, _⟩ => ⟨S1024x256, .bf16⟩
  | .local _ .vmem, ⟨12, _⟩ => ⟨S1024x256, .bf16⟩
  | .local _ .smem, ⟨0, _⟩ => ⟨S1, .f32⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32_4 : BitVec 32 := 0#32
  let c2_i32 : BitVec 32 := 2#32
  let v28 : BitVec 32 := Scalar.addi c0_i32_4 c2_i32
  let c1_i32_5 : BitVec 32 := 1#32
  ⟨c0_i32_4, v28, c1_i32_5⟩
@[reducible] def k0_t2_loop : Scf.Loop 32 :=
  let c0_i32_20 : BitVec 32 := 0#32
  let c8_i32_21 : BitVec 32 := 8#32
  let v44 : BitVec 32 := Scalar.addi c0_i32_20 c8_i32_21
  let c1_i32_22 : BitVec 32 := 1#32
  ⟨c0_i32_20, v44, c1_i32_22⟩
def k0_off1 (i : grid0.Coords) (k0_t1 : Fin k0_t1_loop.trips) : Fin 2 → Nat :=
  let arg0 : BitVec 32 := BitVec.ofNat 32 (i 0).val
  let c2_i32_26 : BitVec 32 := 2#32
  let v47 : BitVec 32 := Scalar.muli arg0 c2_i32_26
  let c0_i32_19 : BitVec 32 := 0#32
  let c0_i32_4 : BitVec 32 := 0#32
  let c1_i32_5 : BitVec 32 := 1#32
  let arg12 : BitVec 32 := Scf.iv c0_i32_4 c1_i32_5 k0_t1
  let c1_i32_18 : BitVec 32 := 1#32
  let v42 : BitVec 32 := Scalar.muli arg12 c1_i32_18
  let v43 : BitVec 32 := Scalar.addi c0_i32_19 v42
  let v48 : BitVec 32 := Scalar.addi v47 v43
  let v49 : Index := Scalar.indexCast v48
  let c0_27 : Index := 0#32
  ![v49.toNat, 0]
def k0_mult1 (k0_t1 : Fin k0_t1_loop.trips) (k0_t2 : Fin k0_t2_loop.trips) : BitVec 32 :=
  let c0_i32_19 : BitVec 32 := 0#32
  let c0_i32_4 : BitVec 32 := 0#32
  let c1_i32_5 : BitVec 32 := 1#32
  let arg12 : BitVec 32 := Scf.iv c0_i32_4 c1_i32_5 k0_t1
  let c1_i32_18 : BitVec 32 := 1#32
  let v42 : BitVec 32 := Scalar.muli arg12 c1_i32_18
  let v43 : BitVec 32 := Scalar.addi c0_i32_19 v42
  let c512_i32 : BitVec 32 := 512#32
  let v63 : BitVec 32 := Scalar.muli v43 c512_i32
  let c32_i32 : BitVec 32 := 32#32
  let c0_i32_25 : BitVec 32 := 0#32
  let c0_i32_20 : BitVec 32 := 0#32
  let c1_i32_22 : BitVec 32 := 1#32
  let arg13 : BitVec 32 := Scf.iv c0_i32_20 c1_i32_22 k0_t2
  let c1_i32_24 : BitVec 32 := 1#32
  let v45 : BitVec 32 := Scalar.muli arg13 c1_i32_24
  let v46 : BitVec 32 := Scalar.addi c0_i32_25 v45
  let v64 : BitVec 32 := Scalar.muli c32_i32 v46
  let v65 : BitVec 32 := Scalar.addi v63 v64
  v65
def k0_off2 (k0_t1 : Fin k0_t1_loop.trips) (k0_t2 : Fin k0_t2_loop.trips) : Fin 2 → Nat :=
  let c0_i32_19 : BitVec 32 := 0#32
  let c0_i32_4 : BitVec 32 := 0#32
  let c1_i32_5 : BitVec 32 := 1#32
  let arg12 : BitVec 32 := Scf.iv c0_i32_4 c1_i32_5 k0_t1
  let c1_i32_18 : BitVec 32 := 1#32
  let v42 : BitVec 32 := Scalar.muli arg12 c1_i32_18
  let v43 : BitVec 32 := Scalar.addi c0_i32_19 v42
  let c512_i32 : BitVec 32 := 512#32
  let v63 : BitVec 32 := Scalar.muli v43 c512_i32
  let c32_i32 : BitVec 32 := 32#32
  let c0_i32_25 : BitVec 32 := 0#32
  let c0_i32_20 : BitVec 32 := 0#32
  let c1_i32_22 : BitVec 32 := 1#32
  let arg13 : BitVec 32 := Scf.iv c0_i32_20 c1_i32_22 k0_t2
  let c1_i32_24 : BitVec 32 := 1#32
  let v45 : BitVec 32 := Scalar.muli arg13 c1_i32_24
  let v46 : BitVec 32 := Scalar.addi c0_i32_25 v45
  let v64 : BitVec 32 := Scalar.muli c32_i32 v46
  let v65 : BitVec 32 := Scalar.addi v63 v64
  let v66 : BitVec 32 := v65
  let v67 : Index := Scalar.indexCast v66
  let c0_30 : Index := 0#32
  ![v67.toNat, 0]
def k0_off3 (k0_t1 : Fin k0_t1_loop.trips) (k0_t2 : Fin k0_t2_loop.trips) : Fin 2 → Nat :=
  let c0_i32_19 : BitVec 32 := 0#32
  let c0_i32_4 : BitVec 32 := 0#32
  let c1_i32_5 : BitVec 32 := 1#32
  let arg12 : BitVec 32 := Scf.iv c0_i32_4 c1_i32_5 k0_t1
  let c1_i32_18 : BitVec 32 := 1#32
  let v42 : BitVec 32 := Scalar.muli arg12 c1_i32_18
  let v43 : BitVec 32 := Scalar.addi c0_i32_19 v42
  let c512_i32 : BitVec 32 := 512#32
  let v63 : BitVec 32 := Scalar.muli v43 c512_i32
  let c32_i32 : BitVec 32 := 32#32
  let c0_i32_25 : BitVec 32 := 0#32
  let c0_i32_20 : BitVec 32 := 0#32
  let c1_i32_22 : BitVec 32 := 1#32
  let arg13 : BitVec 32 := Scf.iv c0_i32_20 c1_i32_22 k0_t2
  let c1_i32_24 : BitVec 32 := 1#32
  let v45 : BitVec 32 := Scalar.muli arg13 c1_i32_24
  let v46 : BitVec 32 := Scalar.addi c0_i32_25 v45
  let v64 : BitVec 32 := Scalar.muli c32_i32 v46
  let v65 : BitVec 32 := Scalar.addi v63 v64
  let v66 : BitVec 32 := v65
  let c256_i32 : BitVec 32 := 256#32
  let v69 : BitVec 32 := Scalar.addi v66 c256_i32
  let v70 : Index := Scalar.indexCast v69
  let c0_31 : Index := 0#32
  ![v70.toNat, 0]
def k0_mult2 (k0_t1 : Fin k0_t1_loop.trips) (k0_t2 : Fin k0_t2_loop.trips) : BitVec 32 :=
  let c0_i32_19 : BitVec 32 := 0#32
  let c0_i32_4 : BitVec 32 := 0#32
  let c1_i32_5 : BitVec 32 := 1#32
  let arg12 : BitVec 32 := Scf.iv c0_i32_4 c1_i32_5 k0_t1
  let c1_i32_18 : BitVec 32 := 1#32
  let v42 : BitVec 32 := Scalar.muli arg12 c1_i32_18
  let v43 : BitVec 32 := Scalar.addi c0_i32_19 v42
  let c256_i32_62 : BitVec 32 := 256#32
  let v208 : BitVec 32 := Scalar.muli v43 c256_i32_62
  let c32_i32_63 : BitVec 32 := 32#32
  let c0_i32_25 : BitVec 32 := 0#32
  let c0_i32_20 : BitVec 32 := 0#32
  let c1_i32_22 : BitVec 32 := 1#32
  let arg13 : BitVec 32 := Scf.iv c0_i32_20 c1_i32_22 k0_t2
  let c1_i32_24 : BitVec 32 := 1#32
  let v45 : BitVec 32 := Scalar.muli arg13 c1_i32_24
  let v46 : BitVec 32 := Scalar.addi c0_i32_25 v45
  let v209 : BitVec 32 := Scalar.muli c32_i32_63 v46
  let v210 : BitVec 32 := Scalar.addi v208 v209
  v210
def k0_off4 (k0_t1 : Fin k0_t1_loop.trips) (k0_t2 : Fin k0_t2_loop.trips) : Fin 2 → Nat :=
  let c0_i32_19 : BitVec 32 := 0#32
  let c0_i32_4 : BitVec 32 := 0#32
  let c1_i32_5 : BitVec 32 := 1#32
  let arg12 : BitVec 32 := Scf.iv c0_i32_4 c1_i32_5 k0_t1
  let c1_i32_18 : BitVec 32 := 1#32
  let v42 : BitVec 32 := Scalar.muli arg12 c1_i32_18
  let v43 : BitVec 32 := Scalar.addi c0_i32_19 v42
  let c256_i32_62 : BitVec 32 := 256#32
  let v208 : BitVec 32 := Scalar.muli v43 c256_i32_62
  let c32_i32_63 : BitVec 32 := 32#32
  let c0_i32_25 : BitVec 32 := 0#32
  let c0_i32_20 : BitVec 32 := 0#32
  let c1_i32_22 : BitVec 32 := 1#32
  let arg13 : BitVec 32 := Scf.iv c0_i32_20 c1_i32_22 k0_t2
  let c1_i32_24 : BitVec 32 := 1#32
  let v45 : BitVec 32 := Scalar.muli arg13 c1_i32_24
  let v46 : BitVec 32 := Scalar.addi c0_i32_25 v45
  let v209 : BitVec 32 := Scalar.muli c32_i32_63 v46
  let v210 : BitVec 32 := Scalar.addi v208 v209
  let v211 : BitVec 32 := v210
  let v212 : Index := Scalar.indexCast v211
  let c0_64 : Index := 0#32
  ![v212.toNat, 0]
@[reducible] def k0_t3_loop : Scf.Loop 32 :=
  let c0_i32_14 : BitVec 32 := 0#32
  let c8_i32 : BitVec 32 := 8#32
  let v38 : BitVec 32 := Scalar.addi c0_i32_14 c8_i32
  let c1_i32_15 : BitVec 32 := 1#32
  ⟨c0_i32_14, v38, c1_i32_15⟩
@[reducible] def k0_t4_loop : Scf.Loop 32 :=
  let c0_i32_20 : BitVec 32 := 0#32
  let c64_i32_21 : BitVec 32 := 64#32
  let v44 : BitVec 32 := Scalar.addi c0_i32_20 c64_i32_21
  let c1_i32_22 : BitVec 32 := 1#32
  ⟨c0_i32_20, v44, c1_i32_22⟩
def k0_mult3 (k0_t4 : Fin k0_t4_loop.trips) : BitVec 32 :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c3_i32 : BitVec 32 := 3#32
  let v74 : BitVec 32 := Scalar.shrsi v72 c3_i32
  let c3_i32_45 : BitVec 32 := 3#32
  let v75 : BitVec 32 := Scalar.andi v74 c3_i32_45
  let c256_i32_47 : BitVec 32 := 256#32
  let v79 : BitVec 32 := Scalar.muli v75 c256_i32_47
  let c32_i32 : BitVec 32 := 32#32
  let c7_i32 : BitVec 32 := 7#32
  let v76 : BitVec 32 := Scalar.andi v72 c7_i32
  let v80 : BitVec 32 := Scalar.muli c32_i32 v76
  let v81 : BitVec 32 := Scalar.addi v79 v80
  v81
def k0_mult4 (k0_t3 : Fin k0_t3_loop.trips) (k0_t4 : Fin k0_t4_loop.trips) : BitVec 32 :=
  let c2_i32_46 : BitVec 32 := 2#32
  let c0_i32_19 : BitVec 32 := 0#32
  let c0_i32_14 : BitVec 32 := 0#32
  let c1_i32_15 : BitVec 32 := 1#32
  let arg12 : BitVec 32 := Scf.iv c0_i32_14 c1_i32_15 k0_t3
  let c1_i32_18 : BitVec 32 := 1#32
  let v42 : BitVec 32 := Scalar.muli arg12 c1_i32_18
  let v43 : BitVec 32 := Scalar.addi c0_i32_19 v42
  let v77 : BitVec 32 := Scalar.muli c2_i32_46 v43
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c5_i32 : BitVec 32 := 5#32
  let v73 : BitVec 32 := Scalar.shrsi v72 c5_i32
  let v78 : BitVec 32 := Scalar.addi v77 v73
  let c128_i32 : BitVec 32 := 128#32
  let v83 : BitVec 32 := Scalar.muli v78 c128_i32
  v83
def k0_off5 (k0_t3 : Fin k0_t3_loop.trips) (k0_t4 : Fin k0_t4_loop.trips) : Fin 2 → Nat :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c3_i32 : BitVec 32 := 3#32
  let v74 : BitVec 32 := Scalar.shrsi v72 c3_i32
  let c3_i32_45 : BitVec 32 := 3#32
  let v75 : BitVec 32 := Scalar.andi v74 c3_i32_45
  let c256_i32_47 : BitVec 32 := 256#32
  let v79 : BitVec 32 := Scalar.muli v75 c256_i32_47
  let c32_i32 : BitVec 32 := 32#32
  let c7_i32 : BitVec 32 := 7#32
  let v76 : BitVec 32 := Scalar.andi v72 c7_i32
  let v80 : BitVec 32 := Scalar.muli c32_i32 v76
  let v81 : BitVec 32 := Scalar.addi v79 v80
  let v82 : BitVec 32 := v81
  let v85 : Index := Scalar.indexCast v82
  let c2_i32_46 : BitVec 32 := 2#32
  let c0_i32_19 : BitVec 32 := 0#32
  let c0_i32_14 : BitVec 32 := 0#32
  let c1_i32_15 : BitVec 32 := 1#32
  let arg12 : BitVec 32 := Scf.iv c0_i32_14 c1_i32_15 k0_t3
  let c1_i32_18 : BitVec 32 := 1#32
  let v42 : BitVec 32 := Scalar.muli arg12 c1_i32_18
  let v43 : BitVec 32 := Scalar.addi c0_i32_19 v42
  let v77 : BitVec 32 := Scalar.muli c2_i32_46 v43
  let c5_i32 : BitVec 32 := 5#32
  let v73 : BitVec 32 := Scalar.shrsi v72 c5_i32
  let v78 : BitVec 32 := Scalar.addi v77 v73
  let c128_i32 : BitVec 32 := 128#32
  let v83 : BitVec 32 := Scalar.muli v78 c128_i32
  let v84 : BitVec 32 := v83
  let v86 : Index := Scalar.indexCast v84
  ![v85.toNat, v86.toNat]
def k0_mult5 (k0_t4 : Fin k0_t4_loop.trips) : BitVec 32 :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c3_i32 : BitVec 32 := 3#32
  let v74 : BitVec 32 := Scalar.shrsi v72 c3_i32
  let c3_i32_45 : BitVec 32 := 3#32
  let v75 : BitVec 32 := Scalar.andi v74 c3_i32_45
  let c1_i32_52 : BitVec 32 := 1#32
  let v132 : BitVec 32 := Scalar.shrsi v75 c1_i32_52
  let c256_i32_53 : BitVec 32 := 256#32
  let v133 : BitVec 32 := Scalar.muli v132 c256_i32_53
  let c32_i32_54 : BitVec 32 := 32#32
  let c7_i32 : BitVec 32 := 7#32
  let v76 : BitVec 32 := Scalar.andi v72 c7_i32
  let v134 : BitVec 32 := Scalar.muli c32_i32_54 v76
  let v135 : BitVec 32 := Scalar.addi v133 v134
  let c0_i32_55 : BitVec 32 := 0#32
  let v136 : BitVec 32 := Scalar.addi v135 c0_i32_55
  v136
def k0_off6 (k0_t4 : Fin k0_t4_loop.trips) (c0_i32_55 : BitVec 32) : Fin 2 → Nat :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c3_i32 : BitVec 32 := 3#32
  let v74 : BitVec 32 := Scalar.shrsi v72 c3_i32
  let c3_i32_45 : BitVec 32 := 3#32
  let v75 : BitVec 32 := Scalar.andi v74 c3_i32_45
  let c1_i32_52 : BitVec 32 := 1#32
  let v132 : BitVec 32 := Scalar.shrsi v75 c1_i32_52
  let c256_i32_53 : BitVec 32 := 256#32
  let v133 : BitVec 32 := Scalar.muli v132 c256_i32_53
  let c32_i32_54 : BitVec 32 := 32#32
  let c7_i32 : BitVec 32 := 7#32
  let v76 : BitVec 32 := Scalar.andi v72 c7_i32
  let v134 : BitVec 32 := Scalar.muli c32_i32_54 v76
  let v135 : BitVec 32 := Scalar.addi v133 v134
  let v136 : BitVec 32 := Scalar.addi v135 c0_i32_55
  let v137 : BitVec 32 := v136
  let v138 : Index := Scalar.indexCast v137
  let c0_56 : Index := 0#32
  ![v138.toNat, 0]
def k0_mult6 (k0_t4 : Fin k0_t4_loop.trips) : BitVec 32 :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c3_i32 : BitVec 32 := 3#32
  let v74 : BitVec 32 := Scalar.shrsi v72 c3_i32
  let c3_i32_45 : BitVec 32 := 3#32
  let v75 : BitVec 32 := Scalar.andi v74 c3_i32_45
  let c256_i32_47 : BitVec 32 := 256#32
  let v79 : BitVec 32 := Scalar.muli v75 c256_i32_47
  let c32_i32 : BitVec 32 := 32#32
  let c7_i32 : BitVec 32 := 7#32
  let v76 : BitVec 32 := Scalar.andi v72 c7_i32
  let v80 : BitVec 32 := Scalar.muli c32_i32 v76
  let v81 : BitVec 32 := Scalar.addi v79 v80
  let v82 : BitVec 32 := v81
  let c0_i32_61 : BitVec 32 := 0#32
  let v158 : BitVec 32 := Scalar.addi v82 c0_i32_61
  v158
def k0_mult7 (k0_t4 : Fin k0_t4_loop.trips) : BitVec 32 :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c5_i32 : BitVec 32 := 5#32
  let v73 : BitVec 32 := Scalar.shrsi v72 c5_i32
  let c128_i32_62 : BitVec 32 := 128#32
  let v160 : BitVec 32 := Scalar.muli v73 c128_i32_62
  v160
def k0_off7 (k0_t4 : Fin k0_t4_loop.trips) (c0_i32_61 : BitVec 32) : Fin 2 → Nat :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c3_i32 : BitVec 32 := 3#32
  let v74 : BitVec 32 := Scalar.shrsi v72 c3_i32
  let c3_i32_45 : BitVec 32 := 3#32
  let v75 : BitVec 32 := Scalar.andi v74 c3_i32_45
  let c256_i32_47 : BitVec 32 := 256#32
  let v79 : BitVec 32 := Scalar.muli v75 c256_i32_47
  let c32_i32 : BitVec 32 := 32#32
  let c7_i32 : BitVec 32 := 7#32
  let v76 : BitVec 32 := Scalar.andi v72 c7_i32
  let v80 : BitVec 32 := Scalar.muli c32_i32 v76
  let v81 : BitVec 32 := Scalar.addi v79 v80
  let v82 : BitVec 32 := v81
  let v158 : BitVec 32 := Scalar.addi v82 c0_i32_61
  let v159 : BitVec 32 := v158
  let v164 : Index := Scalar.indexCast v159
  let c5_i32 : BitVec 32 := 5#32
  let v73 : BitVec 32 := Scalar.shrsi v72 c5_i32
  let c128_i32_62 : BitVec 32 := 128#32
  let v160 : BitVec 32 := Scalar.muli v73 c128_i32_62
  let v161 : BitVec 32 := v160
  let v165 : Index := Scalar.indexCast v161
  ![v164.toNat, v165.toNat]
def k0_mult8 (k0_t4 : Fin k0_t4_loop.trips) : BitVec 32 :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c3_i32 : BitVec 32 := 3#32
  let v74 : BitVec 32 := Scalar.shrsi v72 c3_i32
  let c3_i32_45 : BitVec 32 := 3#32
  let v75 : BitVec 32 := Scalar.andi v74 c3_i32_45
  let c1_i32_67 : BitVec 32 := 1#32
  let v200 : BitVec 32 := Scalar.shrsi v75 c1_i32_67
  let c256_i32_68 : BitVec 32 := 256#32
  let v201 : BitVec 32 := Scalar.muli v200 c256_i32_68
  let c32_i32_69 : BitVec 32 := 32#32
  let c7_i32 : BitVec 32 := 7#32
  let v76 : BitVec 32 := Scalar.andi v72 c7_i32
  let v202 : BitVec 32 := Scalar.muli c32_i32_69 v76
  let v203 : BitVec 32 := Scalar.addi v201 v202
  let c16_i32 : BitVec 32 := 16#32
  let v204 : BitVec 32 := Scalar.addi v203 c16_i32
  v204
def k0_mult9 (k0_t4 : Fin k0_t4_loop.trips) : BitVec 32 :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c3_i32 : BitVec 32 := 3#32
  let v74 : BitVec 32 := Scalar.shrsi v72 c3_i32
  let c3_i32_45 : BitVec 32 := 3#32
  let v75 : BitVec 32 := Scalar.andi v74 c3_i32_45
  let c256_i32_47 : BitVec 32 := 256#32
  let v79 : BitVec 32 := Scalar.muli v75 c256_i32_47
  let c32_i32 : BitVec 32 := 32#32
  let c7_i32 : BitVec 32 := 7#32
  let v76 : BitVec 32 := Scalar.andi v72 c7_i32
  let v80 : BitVec 32 := Scalar.muli c32_i32 v76
  let v81 : BitVec 32 := Scalar.addi v79 v80
  let v82 : BitVec 32 := v81
  let c16_i32_75 : BitVec 32 := 16#32
  let v226 : BitVec 32 := Scalar.addi v82 c16_i32_75
  v226
def k0_mult10 (k0_t4 : Fin k0_t4_loop.trips) : BitVec 32 :=
  let c0_i32_44 : BitVec 32 := 0#32
  let c0_i32_20 : BitVec 32 := 0#32
  let c1_i32_22 : BitVec 32 := 1#32
  let arg13 : BitVec 32 := Scf.iv c0_i32_20 c1_i32_22 k0_t4
  let c1_i32_43 : BitVec 32 := 1#32
  let v71 : BitVec 32 := Scalar.muli arg13 c1_i32_43
  let v72 : BitVec 32 := Scalar.addi c0_i32_44 v71
  let c5_i32 : BitVec 32 := 5#32
  let v73 : BitVec 32 := Scalar.shrsi v72 c5_i32
  let c128_i32_76 : BitVec 32 := 128#32
  let v228 : BitVec 32 := Scalar.muli v73 c128_i32_76
  v228
def k0_mult11 (k0_t3 : Fin k0_t3_loop.trips) : BitVec 32 :=
  let c0_i32_28 : BitVec 32 := 0#32
  let c0_i32_19 : BitVec 32 := 0#32
  let c0_i32_14 : BitVec 32 := 0#32
  let c1_i32_15 : BitVec 32 := 1#32
  let arg12 : BitVec 32 := Scf.iv c0_i32_14 c1_i32_15 k0_t3
  let c1_i32_18 : BitVec 32 := 1#32
  let v42 : BitVec 32 := Scalar.muli arg12 c1_i32_18
  let v43 : BitVec 32 := Scalar.addi c0_i32_19 v42
  let c256_i32 : BitVec 32 := 256#32
  let v49 : BitVec 32 := Scalar.muli v43 c256_i32
  let v50 : BitVec 32 := Scalar.addi c0_i32_28 v49
  v50
def k0_cond1 (i : grid0.Coords) : BitVec 1 :=
  let arg0 : BitVec 32 := BitVec.ofNat 32 (i 0).val
  let c0_i32_29 : BitVec 32 := 0#32
  let v52 : BitVec 1 := Scalar.cmpi .eq arg0 c0_i32_29
  let v53 : BitVec 32 := Scalar.extui v52
  let c0_i32_30 : BitVec 32 := 0#32
  let v54 : BitVec 1 := Scalar.cmpi .ne v53 c0_i32_30
  v54

def k0_off8 (k0_t3 : Fin k0_t3_loop.trips) : Fin 2 → Nat :=
  let c0_43 : Index := 0#32
  let c0_i32_28 : BitVec 32 := 0#32
  let c0_i32_19 : BitVec 32 := 0#32
  let c0_i32_14 : BitVec 32 := 0#32
  let c1_i32_15 : BitVec 32 := 1#32
  let arg12 : BitVec 32 := Scf.iv c0_i32_14 c1_i32_15 k0_t3
  let c1_i32_18 : BitVec 32 := 1#32
  let v42 : BitVec 32 := Scalar.muli arg12 c1_i32_18
  let v43 : BitVec 32 := Scalar.addi c0_i32_19 v42
  let c256_i32 : BitVec 32 := 256#32
  let v49 : BitVec 32 := Scalar.muli v43 c256_i32
  let v50 : BitVec 32 := Scalar.addi c0_i32_28 v49
  let v51 : BitVec 32 := v50
  let v71 : Index := Scalar.indexCast v51
  ![0, v71.toNat]
def k0_cond2 (i : grid0.Coords) : BitVec 1 :=
  let arg0 : BitVec 32 := BitVec.ofNat 32 (i 0).val
  let c0_i32_31 : BitVec 32 := 0#32
  let v55 : BitVec 1 := Scalar.cmpi .sgt arg0 c0_i32_31
  let v56 : BitVec 32 := Scalar.extui v55
  let c0_i32_32 : BitVec 32 := 0#32
  let v57 : BitVec 1 := Scalar.cmpi .ne v56 c0_i32_32
  v57

def k0_off9 (k0_t3 : Fin k0_t3_loop.trips) : Fin 2 → Nat :=
  let c0_43 : Index := 0#32
  let c0_i32_28 : BitVec 32 := 0#32
  let c0_i32_19 : BitVec 32 := 0#32
  let c0_i32_14 : BitVec 32 := 0#32
  let c1_i32_15 : BitVec 32 := 1#32
  let arg12 : BitVec 32 := Scf.iv c0_i32_14 c1_i32_15 k0_t3
  let c1_i32_18 : BitVec 32 := 1#32
  let v42 : BitVec 32 := Scalar.muli arg12 c1_i32_18
  let v43 : BitVec 32 := Scalar.addi c0_i32_19 v42
  let c256_i32 : BitVec 32 := 256#32
  let v49 : BitVec 32 := Scalar.muli v43 c256_i32
  let v50 : BitVec 32 := Scalar.addi c0_i32_28 v49
  let v51 : BitVec 32 := v50
  let v71 : Index := Scalar.indexCast v51
  ![0, v71.toNat]
def k0_mult12 (k0_t3 : Fin k0_t3_loop.trips) : BitVec 32 :=
  let c2048_i32 : BitVec 32 := 2048#32
  let c0_i32_19 : BitVec 32 := 0#32
  let c0_i32_14 : BitVec 32 := 0#32
  let c1_i32_15 : BitVec 32 := 1#32
  let arg12 : BitVec 32 := Scf.iv c0_i32_14 c1_i32_15 k0_t3
  let c1_i32_18 : BitVec 32 := 1#32
  let v42 : BitVec 32 := Scalar.muli arg12 c1_i32_18
  let v43 : BitVec 32 := Scalar.addi c0_i32_19 v42
  let c256_i32_38 : BitVec 32 := 256#32
  let v62 : BitVec 32 := Scalar.muli v43 c256_i32_38
  let v63 : BitVec 32 := Scalar.addi c2048_i32 v62
  v63
def k0_cond3 (i : grid0.Coords) : BitVec 1 :=
  let arg0 : BitVec 32 := BitVec.ofNat 32 (i 0).val
  let c0_i32_39 : BitVec 32 := 0#32
  let v65 : BitVec 1 := Scalar.cmpi .eq arg0 c0_i32_39
  let v66 : BitVec 32 := Scalar.extui v65
  let c0_i32_40 : BitVec 32 := 0#32
  let v67 : BitVec 1 := Scalar.cmpi .ne v66 c0_i32_40
  v67

def k0_off10 (k0_t3 : Fin k0_t3_loop.trips) : Fin 2 → Nat :=
  let c0_43 : Index := 0#32
  let c2048_i32 : BitVec 32 := 2048#32
  let c0_i32_19 : BitVec 32 := 0#32
  let c0_i32_14 : BitVec 32 := 0#32
  let c1_i32_15 : BitVec 32 := 1#32
  let arg12 : BitVec 32 := Scf.iv c0_i32_14 c1_i32_15 k0_t3
  let c1_i32_18 : BitVec 32 := 1#32
  let v42 : BitVec 32 := Scalar.muli arg12 c1_i32_18
  let v43 : BitVec 32 := Scalar.addi c0_i32_19 v42
  let c256_i32_38 : BitVec 32 := 256#32
  let v62 : BitVec 32 := Scalar.muli v43 c256_i32_38
  let v63 : BitVec 32 := Scalar.addi c2048_i32 v62
  let v64 : BitVec 32 := v63
  let v71 : Index := Scalar.indexCast v64
  ![0, v71.toNat]
def k0_cond4 (i : grid0.Coords) : BitVec 1 :=
  let arg0 : BitVec 32 := BitVec.ofNat 32 (i 0).val
  let c0_i32_41 : BitVec 32 := 0#32
  let v68 : BitVec 1 := Scalar.cmpi .sgt arg0 c0_i32_41
  let v69 : BitVec 32 := Scalar.extui v68
  let c0_i32_42 : BitVec 32 := 0#32
  let v70 : BitVec 1 := Scalar.cmpi .ne v69 c0_i32_42
  v70

def k0_off11 (k0_t3 : Fin k0_t3_loop.trips) : Fin 2 → Nat :=
  let c0_43 : Index := 0#32
  let c2048_i32 : BitVec 32 := 2048#32
  let c0_i32_19 : BitVec 32 := 0#32
  let c0_i32_14 : BitVec 32 := 0#32
  let c1_i32_15 : BitVec 32 := 1#32
  let arg12 : BitVec 32 := Scf.iv c0_i32_14 c1_i32_15 k0_t3
  let c1_i32_18 : BitVec 32 := 1#32
  let v42 : BitVec 32 := Scalar.muli arg12 c1_i32_18
  let v43 : BitVec 32 := Scalar.addi c0_i32_19 v42
  let c256_i32_38 : BitVec 32 := 256#32
  let v62 : BitVec 32 := Scalar.muli v43 c256_i32_38
  let v63 : BitVec 32 := Scalar.addi c2048_i32 v62
  let v64 : BitVec 32 := v63
  let v71 : Index := Scalar.indexCast v64
  ![0, v71.toNat]
def k0_cond5 (i : grid0.Coords) : BitVec 1 :=
  let arg0 : BitVec 32 := BitVec.ofNat 32 (i 0).val
  let c13_i32 : BitVec 32 := 13#32
  let v39 : BitVec 1 := Scalar.cmpi .eq arg0 c13_i32
  let v40 : BitVec 32 := Scalar.extui v39
  let c0_i32_17 : BitVec 32 := 0#32
  let v41 : BitVec 1 := Scalar.cmpi .ne v40 c0_i32_17
  v41

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S28x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x128x14336 : Shape := ⟨3, ![1, 128, 14336]⟩
abbrev S14336x2048 : Shape := ⟨2, ![14336, 2048]⟩
abbrev S14336x64 : Shape := ⟨2, ![14336, 64]⟩
abbrev S3584 : Shape := ⟨1, ![3584]⟩
abbrev S1 : Shape := ⟨1, ![1]⟩
abbrev S3584x256 : Shape := ⟨2, ![3584, 256]⟩
abbrev S3584x1 : Shape := ⟨2, ![3584, 1]⟩
abbrev S_ : Shape := ⟨0, ![]⟩
abbrev S14336x32 : Shape := ⟨2, ![14336, 32]⟩
abbrev S14336x32x64 : Shape := ⟨3, ![14336, 32, 64]⟩
abbrev S14336x32x1 : Shape := ⟨3, ![14336, 32, 1]⟩
abbrev S1x128x2048 : Shape := ⟨3, ![1, 128, 2048]⟩
abbrev S1x128x4096 : Shape := ⟨3, ![1, 128, 4096]⟩
abbrev S128x4096 : Shape := ⟨2, ![128, 4096]⟩

abbrev nBuf : Space → Nat
  | .hbm => 182
  | .vmem => 0
  | .smem => 0
  | _ => 0

abbrev hbmTy0_0 (i : Nat) : BufTy := match i % 128 with
  | 0 => ⟨S1x128x14336, .bf16⟩
  | 1 => ⟨S14336x2048, .i8⟩
  | 2 => ⟨S14336x64, .i8⟩
  | 3 => ⟨S3584, .f32⟩
  | 4 => ⟨S1, .f32⟩
  | 5 => ⟨S14336x64, .i32⟩
  | 6 => ⟨S14336x64, .f32⟩
  | 7 => ⟨S3584x256, .f32⟩
  | 8 => ⟨S3584x1, .f32⟩
  | 9 => ⟨S3584x256, .f32⟩
  | 10 => ⟨S3584x256, .f32⟩
  | 11 => ⟨S_, .f32⟩
  | 12 => ⟨S3584x256, .f32⟩
  | 13 => ⟨S3584x256, .f32⟩
  | 14 => ⟨S14336x64, .f32⟩
  | 15 => ⟨S14336x64, .bf16⟩
  | 16 => ⟨S14336x2048, .i32⟩
  | 17 => ⟨S_, .i32⟩
  | 18 => ⟨S14336x2048, .i32⟩
  | 19 => ⟨S14336x2048, .i32⟩
  | 20 => ⟨S_, .i32⟩
  | 21 => ⟨S14336x2048, .i32⟩
  | 22 => ⟨S14336x2048, .i32⟩
  | 23 => ⟨S_, .i32⟩
  | 24 => ⟨S14336x2048, .i32⟩
  | 25 => ⟨S14336x2048, .i32⟩
  | 26 => ⟨S_, .i32⟩
  | 27 => ⟨S14336x2048, .i32⟩
  | 28 => ⟨S14336x2048, .i1⟩
  | 29 => ⟨S_, .i32⟩
  | 30 => ⟨S14336x2048, .i32⟩
  | 31 => ⟨S14336x2048, .i32⟩
  | 32 => ⟨S_, .i32⟩
  | 33 => ⟨S14336x2048, .i32⟩
  | 34 => ⟨S14336x2048, .i1⟩
  | 35 => ⟨S_, .i32⟩
  | 36 => ⟨S14336x2048, .i32⟩
  | 37 => ⟨S14336x2048, .i32⟩
  | 38 => ⟨S_, .i32⟩
  | 39 => ⟨S14336x2048, .i32⟩
  | 40 => ⟨S14336x2048, .i1⟩
  | 41 => ⟨S_, .i32⟩
  | 42 => ⟨S14336x2048, .i32⟩
  | 43 => ⟨S14336x2048, .i32⟩
  | 44 => ⟨S_, .i32⟩
  | 45 => ⟨S14336x2048, .i32⟩
  | 46 => ⟨S14336x2048, .i1⟩
  | 47 => ⟨S_, .bf16⟩
  | 48 => ⟨S14336x2048, .bf16⟩
  | 49 => ⟨S_, .bf16⟩
  | 50 => ⟨S14336x2048, .bf16⟩
  | 51 => ⟨S14336x2048, .bf16⟩
  | 52 => ⟨S_, .bf16⟩
  | 53 => ⟨S14336x2048, .bf16⟩
  | 54 => ⟨S_, .bf16⟩
  | 55 => ⟨S14336x2048, .bf16⟩
  | 56 => ⟨S14336x2048, .bf16⟩
  | 57 => ⟨S14336x2048, .bf16⟩
  | 58 => ⟨S_, .bf16⟩
  | 59 => ⟨S14336x2048, .bf16⟩
  | 60 => ⟨S_, .bf16⟩
  | 61 => ⟨S14336x2048, .bf16⟩
  | 62 => ⟨S14336x2048, .bf16⟩
  | 63 => ⟨S_, .bf16⟩
  | 64 => ⟨S14336x2048, .bf16⟩
  | 65 => ⟨S_, .bf16⟩
  | 66 => ⟨S14336x2048, .bf16⟩
  | 67 => ⟨S14336x2048, .bf16⟩
  | 68 => ⟨S14336x2048, .bf16⟩
  | 69 => ⟨S14336x2048, .bf16⟩
  | 70 => ⟨S_, .bf16⟩
  | 71 => ⟨S14336x2048, .bf16⟩
  | 72 => ⟨S_, .bf16⟩
  | 73 => ⟨S14336x2048, .bf16⟩
  | 74 => ⟨S14336x2048, .bf16⟩
  | 75 => ⟨S_, .bf16⟩
  | 76 => ⟨S14336x2048, .bf16⟩
  | 77 => ⟨S_, .bf16⟩
  | 78 => ⟨S14336x2048, .bf16⟩
  | 79 => ⟨S14336x2048, .bf16⟩
  | 80 => ⟨S14336x2048, .bf16⟩
  | 81 => ⟨S_, .bf16⟩
  | 82 => ⟨S14336x2048, .bf16⟩
  | 83 => ⟨S_, .bf16⟩
  | 84 => ⟨S14336x2048, .bf16⟩
  | 85 => ⟨S14336x2048, .bf16⟩
  | 86 => ⟨S_, .bf16⟩
  | 87 => ⟨S14336x2048, .bf16⟩
  | 88 => ⟨S_, .bf16⟩
  | 89 => ⟨S14336x2048, .bf16⟩
  | 90 => ⟨S14336x2048, .bf16⟩
  | 91 => ⟨S14336x2048, .bf16⟩
  | 92 => ⟨S14336x2048, .bf16⟩
  | 93 => ⟨S14336x2048, .bf16⟩
  | 94 => ⟨S14336x32, .bf16⟩
  | 95 => ⟨S14336x32x64, .bf16⟩
  | 96 => ⟨S14336x32x1, .bf16⟩
  | 97 => ⟨S14336x32x64, .bf16⟩
  | 98 => ⟨S14336x32x64, .bf16⟩
  | 99 => ⟨S14336x2048, .bf16⟩
  | 100 => ⟨S_, .i32⟩
  | 101 => ⟨S14336x2048, .i32⟩
  | 102 => ⟨S14336x2048, .i32⟩
  | 103 => ⟨S_, .i32⟩
  | 104 => ⟨S14336x2048, .i32⟩
  | 105 => ⟨S14336x2048, .i1⟩
  | 106 => ⟨S_, .i32⟩
  | 107 => ⟨S14336x2048, .i32⟩
  | 108 => ⟨S14336x2048, .i32⟩
  | 109 => ⟨S_, .i32⟩
  | 110 => ⟨S14336x2048, .i32⟩
  | 111 => ⟨S14336x2048, .i1⟩
  | 112 => ⟨S_, .i32⟩
  | 113 => ⟨S14336x2048, .i32⟩
  | 114 => ⟨S14336x2048, .i32⟩
  | 115 => ⟨S_, .i32⟩
  | 116 => ⟨S14336x2048, .i32⟩
  | 117 => ⟨S14336x2048, .i1⟩
  | 118 => ⟨S_, .i32⟩
  | 119 => ⟨S14336x2048, .i32⟩
  | 120 => ⟨S14336x2048, .i32⟩
  | 121 => ⟨S_, .i32⟩
  | 122 => ⟨S14336x2048, .i32⟩
  | 123 => ⟨S14336x2048, .i1⟩
  | 124 => ⟨S_, .bf16⟩
  | 125 => ⟨S14336x2048, .bf16⟩
  | 126 => ⟨S_, .bf16⟩
  | 127 => ⟨S14336x2048, .bf16⟩
  | _ => ⟨S1x128x14336, .bf16⟩

abbrev hbmTy0_1 (i : Nat) : BufTy := match i % 128 with
  | 0 => ⟨S14336x2048, .bf16⟩
  | 1 => ⟨S_, .bf16⟩
  | 2 => ⟨S14336x2048, .bf16⟩
  | 3 => ⟨S_, .bf16⟩
  | 4 => ⟨S14336x2048, .bf16⟩
  | 5 => ⟨S14336x2048, .bf16⟩
  | 6 => ⟨S14336x2048, .bf16⟩
  | 7 => ⟨S_, .bf16⟩
  | 8 => ⟨S14336x2048, .bf16⟩
  | 9 => ⟨S_, .bf16⟩
  | 10 => ⟨S14336x2048, .bf16⟩
  | 11 => ⟨S14336x2048, .bf16⟩
  | 12 => ⟨S_, .bf16⟩
  | 13 => ⟨S14336x2048, .bf16⟩
  | 14 => ⟨S_, .bf16⟩
  | 15 => ⟨S14336x2048, .bf16⟩
  | 16 => ⟨S14336x2048, .bf16⟩
  | 17 => ⟨S14336x2048, .bf16⟩
  | 18 => ⟨S14336x2048, .bf16⟩
  | 19 => ⟨S_, .bf16⟩
  | 20 => ⟨S14336x2048, .bf16⟩
  | 21 => ⟨S_, .bf16⟩
  | 22 => ⟨S14336x2048, .bf16⟩
  | 23 => ⟨S14336x2048, .bf16⟩
  | 24 => ⟨S_, .bf16⟩
  | 25 => ⟨S14336x2048, .bf16⟩
  | 26 => ⟨S_, .bf16⟩
  | 27 => ⟨S14336x2048, .bf16⟩
  | 28 => ⟨S14336x2048, .bf16⟩
  | 29 => ⟨S14336x2048, .bf16⟩
  | 30 => ⟨S_, .bf16⟩
  | 31 => ⟨S14336x2048, .bf16⟩
  | 32 => ⟨S_, .bf16⟩
  | 33 => ⟨S14336x2048, .bf16⟩
  | 34 => ⟨S14336x2048, .bf16⟩
  | 35 => ⟨S_, .bf16⟩
  | 36 => ⟨S14336x2048, .bf16⟩
  | 37 => ⟨S_, .bf16⟩
  | 38 => ⟨S14336x2048, .bf16⟩
  | 39 => ⟨S14336x2048, .bf16⟩
  | 40 => ⟨S14336x2048, .bf16⟩
  | 41 => ⟨S14336x2048, .bf16⟩
  | 42 => ⟨S14336x2048, .bf16⟩
  | 43 => ⟨S14336x32, .bf16⟩
  | 44 => ⟨S14336x32x64, .bf16⟩
  | 45 => ⟨S14336x32x1, .bf16⟩
  | 46 => ⟨S14336x32x64, .bf16⟩
  | 47 => ⟨S14336x32x64, .bf16⟩
  | 48 => ⟨S14336x2048, .bf16⟩
  | 49 => ⟨S1x128x2048, .f32⟩
  | 50 => ⟨S1x128x2048, .f32⟩
  | 51 => ⟨S1x128x4096, .f32⟩
  | 52 => ⟨S1x128x4096, .bf16⟩
  | 53 => ⟨S128x4096, .bf16⟩
  | _ => ⟨S1x128x14336, .bf16⟩

abbrev hbmTy (i : Nat) : BufTy := match i / 128 with
  | 0 => hbmTy0_0 i
  | 1 => hbmTy0_1 i
  | _ => ⟨S1x128x14336, .bf16⟩

abbrev bufTy : (tb : Table) → Fin (tcTables nBuf tb) → BufTy
  | .hbm, ⟨i, _⟩ => hbmTy i
  | _, _ => ⟨S1x128x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_cst_15 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_16 : Ref sig .tc := ⟨.hbm, 70, rfl⟩
abbrev main_v47 : Ref sig .tc := ⟨.hbm, 71, rfl⟩
abbrev main_cst_17 : Ref sig .tc := ⟨.hbm, 72, rfl⟩
abbrev main_v48 : Ref sig .tc := ⟨.hbm, 73, rfl⟩
abbrev main_v49 : Ref sig .tc := ⟨.hbm, 74, rfl⟩
abbrev main_cst_18 : Ref sig .tc := ⟨.hbm, 75, rfl⟩
abbrev main_v50 : Ref sig .tc := ⟨.hbm, 76, rfl⟩
abbrev main_cst_19 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_20 : Ref sig .tc := ⟨.hbm, 81, rfl⟩
abbrev main_v54 : Ref sig .tc := ⟨.hbm, 82, rfl⟩
abbrev main_cst_21 : Ref sig .tc := ⟨.hbm, 83, rfl⟩
abbrev main_v55 : Ref sig .tc := ⟨.hbm, 84, rfl⟩
abbrev main_v56 : Ref sig .tc := ⟨.hbm, 85, rfl⟩
abbrev main_cst_22 : Ref sig .tc := ⟨.hbm, 86, rfl⟩
abbrev main_v57 : Ref sig .tc := ⟨.hbm, 87, rfl⟩
abbrev main_cst_23 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_24 : Ref sig .tc := ⟨.hbm, 100, rfl⟩
abbrev main_v69 : Ref sig .tc := ⟨.hbm, 101, rfl⟩
abbrev main_v70 : Ref sig .tc := ⟨.hbm, 102, rfl⟩
abbrev main_c_25 : Ref sig .tc := ⟨.hbm, 103, rfl⟩
abbrev main_v71 : Ref sig .tc := ⟨.hbm, 104, rfl⟩
abbrev main_v72 : Ref sig .tc := ⟨.hbm, 105, rfl⟩
abbrev main_c_26 : Ref sig .tc := ⟨.hbm, 106, rfl⟩
abbrev main_v73 : Ref sig .tc := ⟨.hbm, 107, rfl⟩
abbrev main_v74 : Ref sig .tc := ⟨.hbm, 108, rfl⟩
abbrev main_c_27 : Ref sig .tc := ⟨.hbm, 109, rfl⟩
abbrev main_v75 : Ref sig .tc := ⟨.hbm, 110, rfl⟩
abbrev main_v76 : Ref sig .tc := ⟨.hbm, 111, rfl⟩
abbrev main_c_28 : Ref sig .tc := ⟨.hbm, 112, rfl⟩
abbrev main_v77 : Ref sig .tc := ⟨.hbm, 113, rfl⟩
abbrev main_v78 : Ref sig .tc := ⟨.hbm, 114, rfl⟩
abbrev main_c_29 : Ref sig .tc := ⟨.hbm, 115, rfl⟩
abbrev main_v79 : Ref sig .tc := ⟨.hbm, 116, rfl⟩
abbrev main_v80 : Ref sig .tc := ⟨.hbm, 117, rfl⟩
abbrev main_c_30 : Ref sig .tc := ⟨.hbm, 118, rfl⟩
abbrev main_v81 : Ref sig .tc := ⟨.hbm, 119, rfl⟩
abbrev main_v82 : Ref sig .tc := ⟨.hbm, 120, rfl⟩
abbrev main_c_31 : Ref sig .tc := ⟨.hbm, 121, rfl⟩
abbrev main_v83 : Ref sig .tc := ⟨.hbm, 122, rfl⟩
abbrev main_v84 : Ref sig .tc := ⟨.hbm, 123, rfl⟩
abbrev main_cst_32 : Ref sig .tc := ⟨.hbm, 124, rfl⟩
abbrev main_v85 : Ref sig .tc := ⟨.hbm, 125, rfl⟩
abbrev main_cst_33 : Ref sig .tc := ⟨.hbm, 126, rfl⟩
abbrev main_v86 : Ref sig .tc := ⟨.hbm, 127, rfl⟩
abbrev main_v87 : Ref sig .tc := ⟨.hbm, 128, rfl⟩
abbrev main_cst_34 : Ref sig .tc := ⟨.hbm, 129, rfl⟩
abbrev main_v88 : Ref sig .tc := ⟨.hbm, 130, rfl⟩
abbrev main_cst_35 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_36 : Ref sig .tc := ⟨.hbm, 135, rfl⟩
abbrev main_v92 : Ref sig .tc := ⟨.hbm, 136, rfl⟩
abbrev main_cst_37 : Ref sig .tc := ⟨.hbm, 137, rfl⟩
abbrev main_v93 : Ref sig .tc := ⟨.hbm, 138, rfl⟩
abbrev main_v94 : Ref sig .tc := ⟨.hbm, 139, rfl⟩
abbrev main_cst_38 : Ref sig .tc := ⟨.hbm, 140, rfl⟩
abbrev main_v95 : Ref sig .tc := ⟨.hbm, 141, rfl⟩
abbrev main_cst_39 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_40 : Ref sig .tc := ⟨.hbm, 147, rfl⟩
abbrev main_v100 : Ref sig .tc := ⟨.hbm, 148, rfl⟩
abbrev main_cst_41 : Ref sig .tc := ⟨.hbm, 149, rfl⟩
abbrev main_v101 : Ref sig .tc := ⟨.hbm, 150, rfl⟩
abbrev main_v102 : Ref sig .tc := ⟨.hbm, 151, rfl⟩
abbrev main_cst_42 : Ref sig .tc := ⟨.hbm, 152, rfl⟩
abbrev main_v103 : Ref sig .tc := ⟨.hbm, 153, rfl⟩
abbrev main_cst_43 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_44 : Ref sig .tc := ⟨.hbm, 158, rfl⟩
abbrev main_v107 : Ref sig .tc := ⟨.hbm, 159, rfl⟩
abbrev main_cst_45 : Ref sig .tc := ⟨.hbm, 160, rfl⟩
abbrev main_v108 : Ref sig .tc := ⟨.hbm, 161, rfl⟩
abbrev main_v109 : Ref sig .tc := ⟨.hbm, 162, rfl⟩
abbrev main_cst_46 : Ref sig .tc := ⟨.hbm, 163, rfl⟩
abbrev main_v110 : Ref sig .tc := ⟨.hbm, 164, rfl⟩
abbrev main_cst_47 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩

abbrev nD : Nat := 1
abbrev τ : Topo := Topo.v7x

variable {F : FTy → Type} [FloatOps F]
-- ==== Proof.LoopsA.lean ====
/- The two nested loops that decode the block scales. -/
module

public import proofs.«01_k».proof.Proof.Gen.KernelIdeal.Skeleton
public import Idealize.ShloMosaic.Lib.Exec
public import Idealize.ShloMosaic.Lib.Tactic
public import Idealize.ShloMosaic.Lib.WritesUnit
public import Idealize.ShloMosaic.Lib.ValueIdxCore
public import Idealize.ShloMosaic.Lib.Pipeline.FrameBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The eight rows of expanded scales used by one trip of the inner loop. -/
def aScale (i : grid0.Coords) (v0 : IVec S8x128 32) (s : Vec F S28x128 .f32) (t1 : Fin k0_t1_loop.trips)
    (t2 : Fin k0_t2_loop.trips) : FVec F S8x128 .f32 :=
  k0_pay3 v0 k0_pay39 0#32 1#32 t2 (View.ld s (Rect.unit (s := S28x128) (k0_off1 i t1) S1x128.size (k0_off1_inb i t1)))

/-- The thirty-two rows of quantized block scales read by one trip of the inner loop, as floats. -/
def aQuant (q : Vec F S1024x64 .i8) (t1 : Fin k0_t1_loop.trips) (t2 : Fin k0_t2_loop.trips) : FVec F S32x128 .f32 :=
  k0_pay4 (View.ld q (Rect.unit (s := S1024x64) (k0_off2 t1 t2) S32x64.size (k0_off2_inb t1 t2)))
    (View.ld q (Rect.unit (s := S1024x64) (k0_off3 t1 t2) S32x64.size (k0_off3_inb t1 t2)))

/-- The thirty-two rows of block scales that trip `(t1, t2)` writes, from the offset word `off`, the expanded scales and
    the quantized values. -/
def aOut (v0 : IVec S8x128 32) (off : Elt F .f32) (v62 : FVec F S8x128 .f32) (v73 : FVec F S32x128 .f32) : FVec F S32x128 .bf16 :=
  k0_pay41 off v62 v73
    (k0_pay7 v0 off v62 v73 4#32 (k0_pay5 v0) (k0_pay6 v0)
      (Scalar.subi (Scalar.extui (Scalar.cmpi .sgt 4#32 0#32)) (Scalar.extui (Scalar.cmpi .slt 4#32 0#32))))
    (k0_pay10 off (k0_pay8 v0 v62) (k0_pay9 v73)) (k0_pay11 v0 off v62 v73) 4#32 (k0_pay12 v0) (k0_pay13 v0)
    (Scalar.extui (Scalar.cmpi .sgt 4#32 0#32)) 0#32

/-- The tile trip `(t1, t2)` writes, from the whole operands. -/
def aTile (i : grid0.Coords) (v0 : IVec S8x128 32) (off : Elt F .f32) (q : Vec F S1024x64 .i8) (s : Vec F S28x128 .f32)
    (t1 : Fin k0_t1_loop.trips) (t2 : Fin k0_t2_loop.trips) : FVec F S32x128 .bf16 :=
  aOut v0 off (aScale i v0 s t1 t2) (aQuant q t1 t2)

theorem trips1 : k0_t1_loop.trips = 2 := by decide +kernel
theorem trips2 : k0_t2_loop.trips = 8 := by decide +kernel

/-- The whole scratch of block scales: tile `8 c + i` holds rows `256 c + 32 i` and on. -/
def aSpec (i : grid0.Coords) (v0 : IVec S8x128 32) (off : Elt F .f32) (q : Vec F S1024x64 .i8) (s : Vec F S28x128 .f32) :
    Vec F S512x128 .bf16 := fun j =>
  aTile i v0 off q s
    ⟨(j 0).val / 256, by have h : (j 0).val < 512 := (j 0).isLt; rw [trips1]; omega⟩
    ⟨(j 0).val % 256 / 32, by rw [trips2]; omega⟩
    (ValueIdx.ix2 ⟨(j 0).val % 32, by omega⟩ (j 1))

/-- The first `n` tiles of the scratch hold the block scales. -/
def AFilled (spec : Vec F S512x128 .bf16) (n : ℕ) (y : Vec F S512x128 .bf16) : Prop :=
  ∀ j, (j 0).val / 32 < n → y j = spec j

theorem AFilled.zero (spec y : Vec F S512x128 .bf16) : AFilled spec 0 y := fun _ h => absurd h (Nat.not_lt_zero _)

theorem AFilled.full {spec y : Vec F S512x128 .bf16} (h : AFilled spec 16 y) : y = spec :=
  funext fun j => h j (by have := (j 0).isLt; change (j 0).val < 512 at this; omega)

/-- Writing tile `(t1, t2)` fills one more tile. -/
theorem AFilled.step {i : grid0.Coords} {v0 : IVec S8x128 32} {off : Elt F .f32} {q : Vec F S1024x64 .i8}
    {s : Vec F S28x128 .f32} (arg9 : Memref sig .tc .vmem S512x128 .bf16)
    {f : BufTy.Contents (Elt F) arg9.view.ty} (t1 : Fin k0_t1_loop.trips) (t2 : Fin k0_t2_loop.trips)
    (h : AFilled (aSpec i v0 off q s) (8 * t1.val + t2.val) (arg9.view.read (Elt F) f)) :
    AFilled (aSpec i v0 off q s) (8 * t1.val + (t2.val + 1)) (arg9.view.read (Elt F) (arg9.view.writes (Elt F) f
      [⟨Rect.unit (s := S512x128) (k0_off4 t1 t2) S32x128.size (k0_off4_inb t1 t2), aTile i v0 off q s t1 t2⟩])) := by
  intro j hj
  have h2 : t2.val < 8 := lt_of_lt_of_eq t2.isLt trips2
  have hc : (j 1).val < 128 := (j 1).isLt
  by_cases hin : (j 0).val / 32 = 8 * t1.val + t2.val
  · rw [View.read_writes_cons_unit_of_mem arg9.view f (k0_off4_inb t1 t2) _ [] j
      (ValueIdx.ix2 ⟨(j 0).val % 32, by omega⟩ (j 1)) (k0_off4_eq t1 t2) (by
        intro a
        fin_cases a
        · show (j 0).val = 256 * t1.val + 32 * t2.val + (j 0).val % 32
          omega
        · show (j 1).val = 0 + (j 1).val
          omega)]
    have e1 : t1 = ⟨(j 0).val / 256, by have h : (j 0).val < 512 := (j 0).isLt; rw [trips1]; omega⟩ := Fin.ext (by show t1.val = (j 0).val / 256; omega)
    have e2 : t2 = ⟨(j 0).val % 256 / 32, by rw [trips2]; omega⟩ := Fin.ext (by show t2.val = (j 0).val % 256 / 32; omega)
    unfold aSpec
    rw [← e1, ← e2]
  · rw [View.read_writes_cons_unit_of_not_mem arg9.view f (k0_off4_inb t1 t2) _ [] j (k0_off4_eq t1 t2) 0 (by
      show (j 0).val < 256 * t1.val + 32 * t2.val ∨ 256 * t1.val + 32 * t2.val + 32 ≤ (j 0).val
      omega)]
    exact h j (by omega)

set_option warn.classDefReducibility false in
/-- Before trip `t2` of the inner loop the first `8 t1 + t2` tiles are filled. -/
@[sl_loop] def loopInv_t2 (𝒱 : Variants) (c : Dev nD) (bd : Option 𝒱.V) (E : Set ℕ) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole)
    (arg0 : BitVec 32) (v0 : IVec S8x128 32) (v27 : Elt F .f32) (t1 : Fin k0_t1_loop.trips) (v43 : BitVec 32)
    (q : Vec F S1024x64 .i8) (s : Vec F S28x128 .f32) :
    LoopInv (M := MT nD τ sig Unit (Elt F) ℕ (UR sig nD τ) ℕ) Idealize.ShloMosaic.frame (wpE defs₀ 𝒱 (c : Thread nD τ) bd) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg0 v0 v27 t1 v43) where
  inv k _ := iprop((arg4.view.loc (c : Thread nD τ) ↦[arg4.view.set]{fullShare} harg4.unread q)
    ∗ (arg5.view.loc (c : Thread nD τ) ↦[arg5.view.set]{fullShare} harg5.unread s)
    ∗ (∃ f9, (arg9.view.loc (c : Thread nD τ) ↦[arg9.view.set]{fullShare} f9)
        ∗ ⌜AFilled (aSpec i v0 v27 q s) (8 * t1.val + k) (arg9.view.read (Elt F) f9)⌝))
  step k acc := by
    have hk : k.val < 8 := lt_of_lt_of_eq k.isLt trips2
    unfold k0_t2_body
    iintro ⟨H4, H5, %f9, H9, %hf⟩
    sl_exec
    sl_step
    isplitl [H4]; · iexact H4
    isplitl [H5]; · iexact H5
    iexists _
    isplitl [H9]; · iexact H9
    ipureintro
    sl_unfold_words
    simp only [View.readAt_eq_ld, harg4.read_unread, harg5.read_unread]
    exact AFilled.step arg9 t1 k hf

set_option warn.classDefReducibility false in
/-- Before trip `t1` of the outer loop the first `8 t1` tiles are filled. -/
@[sl_loop] def loopInv_t1 (𝒱 : Variants) (c : Dev nD) (bd : Option 𝒱.V) (E : Set ℕ) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole)
    (arg0 : BitVec 32) (v0 : IVec S8x128 32) (v27 : Elt F .f32)
    (q : Vec F S1024x64 .i8) (s : Vec F S28x128 .f32) :
    LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg0 v0 v27) where
  inv k _ := iprop((arg4.view.loc (c : Thread nD τ) ↦[arg4.view.set]{fullShare} harg4.unread q)
    ∗ (arg5.view.loc (c : Thread nD τ) ↦[arg5.view.set]{fullShare} harg5.unread s)
    ∗ (∃ f9, (arg9.view.loc (c : Thread nD τ) ↦[arg9.view.set]{fullShare} f9)
        ∗ ⌜AFilled (aSpec i v0 v27 q s) (8 * k) (arg9.view.read (Elt F) f9)⌝))
  step k acc := by
    have hk : k.val < 2 := lt_of_lt_of_eq k.isLt trips1
    unfold k0_t1_body
    iintro ⟨H4, H5, %f9, H9, %hf⟩
    sl_exec
    sl_step
    isplitl [H4]; · iexact H4
    isplitl [H5]; · iexact H5
    iexists _
    isplitl [H9]; · iexact H9
    ipureintro
    assumption

end Cert.KernelIdeal.Hand
-- ==== Proof.LoopsB.lean ====
/- The loop that expands one pair of weight tiles, and the loop over the pairs that multiplies and accumulates. -/
module

public import proofs.«01_k».proof.Proof.LoopsA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem trips3 : k0_t3_loop.trips = 8 := by decide +kernel
theorem trips4 : k0_t4_loop.trips = 64 := by decide +kernel

/-- Where trip `t4` stores its two pieces of sixteen rows. -/
theorem off7_eq : ∀ (t4 : Fin k0_t4_loop.trips) (r : Fin 2), k0_off7 t4 (BitVec.ofNat 32 (16 * r.val))
    = ![32 * (t4.val % 32) + 16 * r.val, 128 * (t4.val / 32)] := by decide +kernel

/-- The trip number as the word the program computes. -/
def tripWord (t : ℕ) : BitVec 32 := Scalar.addi 0#32 (Scalar.muli (Scf.iv 0#32 1#32 t) 1#32)

/-- The row tile `t` of trip `t4`. -/
def rowTile (t4 : Fin k0_t4_loop.trips) : BitVec 32 := Scalar.andi (Scalar.shrsi (tripWord t4.val) 3#32) 3#32

/-- The column group `2 n + cg` of trip `t4`. -/
def colGroup (v43 : BitVec 32) (t4 : Fin k0_t4_loop.trips) : BitVec 32 :=
  Scalar.addi (Scalar.muli 2#32 v43) (Scalar.shrsi (tripWord t4.val) 5#32)

/-- The packed bytes trip `(t3, t4)` reads. -/
def wLoad (w : Vec F S1024x2048 .i8) (t3 : Fin k0_t3_loop.trips) (t4 : Fin k0_t4_loop.trips) : Vec F S32x128 .i8 :=
  View.ld w (Rect.unit (s := S1024x2048) (k0_off5 t3 t4) S32x128.size (k0_off5_inb t3 t4))

/-- The sixteen rows of block scales for the upper (`r = 0`) or lower (`r = 1`) rows of the trip. -/
def aLoad (a : Vec F S512x128 .bf16) (t4 : Fin k0_t4_loop.trips) (r : Fin 2) : Vec F S16x128 .bf16 :=
  View.ld a (Rect.unit (s := S512x128) (k0_off6 t4 (BitVec.ofNat 32 (16 * r.val))) S16x128.size (k0_off6_inb t4 r))

/-- The even outputs' weights of rows `16 r …` of trip `(t3, t4)`. -/
def loTile (v26 : IVec S16x128 32) (v30 v32 : IVec S32x128 8) (v43 : BitVec 32) (w : Vec F S1024x2048 .i8)
    (a : Vec F S512x128 .bf16) (t3 : Fin k0_t3_loop.trips) (t4 : Fin k0_t4_loop.trips) (r : Fin 2) : FVec F S16x128 .bf16 :=
  if r = 0 then
    k0_pay24 (k0_pay19 v30 v32 (k0_pay15 (F := F) (wLoad w t3 t4)) (k0_pay16 (F := F) (wLoad w t3 t4)))
      (k0_pay22 v26 (rowTile t4) (colGroup v43 t4) (aLoad a t4 0))
  else k0_pay32 v26 (rowTile t4) (colGroup v43 t4) (k0_pay29 v30 v32 (k0_pay14 (F := F) (wLoad w t3 t4))) (aLoad a t4 1)

/-- The odd outputs' weights of rows `16 r …` of trip `(t3, t4)`. -/
def hiTile (v26 : IVec S16x128 32) (v30 v32 : IVec S32x128 8) (v37 : IVec S32x128 1) (v43 : BitVec 32)
    (w : Vec F S1024x2048 .i8)
    (a : Vec F S512x128 .bf16) (t3 : Fin k0_t3_loop.trips) (t4 : Fin k0_t4_loop.trips) (r : Fin 2) : FVec F S16x128 .bf16 :=
  if r = 0 then
    k0_pay25 (k0_pay20 v30 v32 v37 (k0_pay15 (F := F) (wLoad w t3 t4)) (k0_pay16 (F := F) (wLoad w t3 t4)))
      (k0_pay23 v26 (rowTile t4) (colGroup v43 t4) (aLoad a t4 0))
  else k0_pay33 v26 (rowTile t4) (colGroup v43 t4) (k0_pay30 v30 v32 v37 (k0_pay14 (F := F) (wLoad w t3 t4))) (aLoad a t4 1)

/-- A buffer of weights put together from the pieces of all sixty-four trips. -/
def wSpec (tile : Fin k0_t4_loop.trips → Fin 2 → FVec F S16x128 .bf16) : Vec F S1024x256 .bf16 := fun j =>
  tile ⟨32 * ((j 1).val / 128) + (j 0).val / 32, by
      have h0 : (j 0).val < 1024 := (j 0).isLt
      have h1 : (j 1).val < 256 := (j 1).isLt
      rw [trips4]; omega⟩
    ⟨(j 0).val % 32 / 16, by omega⟩
    (ValueIdx.ix2 ⟨(j 0).val % 16, by omega⟩ ⟨(j 1).val % 128, by omega⟩)

/-- The pieces of the first `n` trips are in place. -/
def WFilled (tile : Fin k0_t4_loop.trips → Fin 2 → FVec F S16x128 .bf16) (n : ℕ) (y : Vec F S1024x256 .bf16) : Prop :=
  ∀ j, 32 * ((j 1).val / 128) + (j 0).val / 32 < n → y j = wSpec tile j

theorem WFilled.zero (tile : Fin k0_t4_loop.trips → Fin 2 → FVec F S16x128 .bf16) (y : Vec F S1024x256 .bf16) :
    WFilled tile 0 y := fun _ h => absurd h (Nat.not_lt_zero _)

theorem WFilled.full {tile : Fin k0_t4_loop.trips → Fin 2 → FVec F S16x128 .bf16} {y : Vec F S1024x256 .bf16}
    (h : WFilled tile 64 y) : y = wSpec tile :=
  funext fun j => h j (by
    have h0 : (j 0).val < 1024 := (j 0).isLt
    have h1 : (j 1).val < 256 := (j 1).isLt
    omega)

/-- One trip's two pieces fill one more unit. -/
theorem WFilled.step {tile : Fin k0_t4_loop.trips → Fin 2 → FVec F S16x128 .bf16}
    (m : Memref sig .tc .vmem S1024x256 .bf16) {f : BufTy.Contents (Elt F) m.view.ty} (t4 : Fin k0_t4_loop.trips)
    (h : WFilled tile t4.val (m.view.read (Elt F) f)) :
    WFilled tile (t4.val + 1) (m.view.read (Elt F) (m.view.writes (Elt F) f
      [⟨Rect.unit (s := S1024x256) (k0_off7 t4 16#32) S16x128.size (k0_off7_inb t4 1), tile t4 1⟩,
       ⟨Rect.unit (s := S1024x256) (k0_off7 t4 0#32) S16x128.size (k0_off7_inb t4 0), tile t4 0⟩])) := by
  intro j hj
  have h4 : t4.val < 64 := lt_of_lt_of_eq t4.isLt trips4
  have h0 : (j 0).val < 1024 := (j 0).isLt
  have h1 : (j 1).val < 256 := (j 1).isLt
  have mem : ∀ (r : Fin 2), 32 * ((j 1).val / 128) + (j 0).val / 32 = t4.val → (j 0).val % 32 / 16 = r.val →
      ∀ a, (j a).val = (![32 * (t4.val % 32) + 16 * r.val, 128 * (t4.val / 32)] : Fin 2 → ℕ) a
        + ((ValueIdx.ix2 (⟨(j 0).val % 16, by omega⟩ : Fin 16) (⟨(j 1).val % 128, by omega⟩ : Fin 128)) a).val := by
    intro r hu hr a
    fin_cases a
    · show (j 0).val = 32 * (t4.val % 32) + 16 * r.val + (j 0).val % 16
      omega
    · show (j 1).val = 128 * (t4.val / 32) + (j 1).val % 128
      omega
  have val : ∀ (r : Fin 2), 32 * ((j 1).val / 128) + (j 0).val / 32 = t4.val → (j 0).val % 32 / 16 = r.val →
      tile t4 r (ValueIdx.ix2 ⟨(j 0).val % 16, by omega⟩ ⟨(j 1).val % 128, by omega⟩) = wSpec tile j := by
    intro r hu hr
    have e1 : t4 = ⟨32 * ((j 1).val / 128) + (j 0).val / 32, by rw [trips4]; omega⟩ := Fin.ext hu.symm
    have e2 : r = ⟨(j 0).val % 32 / 16, by omega⟩ := Fin.ext hr.symm
    unfold wSpec
    rw [← e1, ← e2]
  have inb1 : ∀ a, k0_off7 t4 16#32 a + S16x128.size a ≤ S1024x256.size a := k0_off7_inb t4 1
  have inb0 : ∀ a, k0_off7 t4 0#32 a + S16x128.size a ≤ S1024x256.size a := k0_off7_inb t4 0
  have e1 : k0_off7 t4 16#32 = ![32 * (t4.val % 32) + 16 * (1 : Fin 2).val, 128 * (t4.val / 32)] := off7_eq t4 1
  have e0 : k0_off7 t4 0#32 = ![32 * (t4.val % 32) + 16 * (0 : Fin 2).val, 128 * (t4.val / 32)] := off7_eq t4 0
  by_cases hu : 32 * ((j 1).val / 128) + (j 0).val / 32 = t4.val
  · by_cases hr : (j 0).val % 32 / 16 = 1
    · rw [View.read_writes_cons_unit_of_mem m.view f inb1 _ _ j
        (ValueIdx.ix2 (⟨(j 0).val % 16, by omega⟩ : Fin 16) (⟨(j 1).val % 128, by omega⟩ : Fin 128)) e1 (mem 1 hu hr)]
      exact val 1 hu hr
    · have hr0 : (j 0).val % 32 / 16 = 0 := by omega
      rw [View.read_writes_cons_unit_of_not_mem m.view f inb1 _ _ j e1 0 (by
          show (j 0).val < 32 * (t4.val % 32) + 16 * 1 ∨ 32 * (t4.val % 32) + 16 * 1 + 16 ≤ (j 0).val
          omega),
        View.read_writes_cons_unit_of_mem m.view f inb0 _ _ j
        (ValueIdx.ix2 (⟨(j 0).val % 16, by omega⟩ : Fin 16) (⟨(j 1).val % 128, by omega⟩ : Fin 128)) e0 (mem 0 hu hr0)]
      exact val 0 hu hr0
  · have miss : ∀ (r : Fin 2), ∃ a : Fin 2, (j a).val < (![32 * (t4.val % 32) + 16 * r.val, 128 * (t4.val / 32)] : Fin 2 → ℕ) a
        ∨ (![32 * (t4.val % 32) + 16 * r.val, 128 * (t4.val / 32)] : Fin 2 → ℕ) a + S16x128.size a ≤ (j a).val := by
      intro r
      by_cases hc : (j 1).val / 128 = t4.val / 32
      · exact ⟨0, by
          show (j 0).val < 32 * (t4.val % 32) + 16 * r.val ∨ 32 * (t4.val % 32) + 16 * r.val + 16 ≤ (j 0).val
          omega⟩
      · exact ⟨1, by
          show (j 1).val < 128 * (t4.val / 32) ∨ 128 * (t4.val / 32) + 128 ≤ (j 1).val
          omega⟩
    obtain ⟨a1, m1⟩ := miss 1
    obtain ⟨a0, m0⟩ := miss 0
    rw [View.read_writes_cons_unit_of_not_mem m.view f inb1 _ _ j e1 a1 m1,
      View.read_writes_cons_unit_of_not_mem m.view f inb0 _ _ j e0 a0 m0]
    exact h j (by omega)

set_option warn.classDefReducibility false in
/-- Before trip `t4` the pieces of the earlier trips are in place in both weight buffers. -/
@[sl_loop] def loopInv_t4 (𝒱 : Variants) (c : Dev nD) (bd : Option 𝒱.V) (E : Set ℕ) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole)
    (arg0 : BitVec 32) (v26 : IVec S16x128 32) (v30 : IVec S32x128 8) (v32 : IVec S32x128 8) (v37 : IVec S32x128 1)
    (c0 c1 : BitVec 32) (t3 : Fin k0_t3_loop.trips) (v43 : BitVec 32)
    (w : Vec F S1024x2048 .i8) (a : Vec F S512x128 .bf16) :
    LoopInv (M := MT nD τ sig Unit (Elt F) ℕ (UR sig nD τ) ℕ) Idealize.ShloMosaic.frame (wpE defs₀ 𝒱 (c : Thread nD τ) bd) E
      k0_t4_loop.lb k0_t4_loop.ub k0_t4_loop.st k0_t4_ok () (k0_t4_body (F := F) i arg1 harg1 arg2 harg2 arg3 harg3 arg4 harg4 arg5 harg5 arg6 harg6 arg7 harg7 arg8 harg8 arg9 harg9 arg10 harg10 arg11 harg11 arg0 v26 v30 v32 v37 c0 c1 t3 v43) where
  inv k _ := iprop((arg3.view.loc (c : Thread nD τ) ↦[arg3.view.set]{fullShare} harg3.unread w)
    ∗ (∃ f9, (arg9.view.loc (c : Thread nD τ) ↦[arg9.view.set]{fullShare} f9) ∗ ⌜arg9.view.read (Elt F) f9 = a⌝)
    ∗ (∃ f10, (arg10.view.loc (c : Thread nD τ) ↦[arg10.view.set]{fullShare} f10)
        ∗ ⌜WFilled (loTile v26 v30 v32 v43 w a t3) k (arg10.view.read (Elt F) f10)⌝)
    ∗ (∃ f11, (arg11.view.loc (c : Thread nD τ) ↦[arg11.view.set]{fullShare} f11)
        ∗ ⌜WFilled (hiTile v26 v30 v32 v37 v43 w a t3) k (arg11.view.read (Elt F) f11)⌝))
  step k acc := by
    have hk : k.val < 64 := lt_of_lt_of_eq k.isLt trips4
    unfold k0_t4_body
    iintro ⟨H3, ⟨%f9, H9, %h9⟩, ⟨%f10, H10, %h10⟩, ⟨%f11, H11, %h11⟩⟩
    sl_exec
    sl_step
    isplitl [H3]; · iexact H3
    isplitl [H9]
    · iexists _
      isplitl [H9]; · iexact H9
      ipureintro
      assumption
    isplitl [H10]
    · iexists _
      isplitl [H10]; · iexact H10
      ipureintro
      sl_unfold_words
      simp only [View.readAt_eq_ld, harg3.read_unread, h9]
      exact WFilled.step arg10 k h10
    · iexists _
      isplitl [H11]; · iexact H11
      ipureintro
      sl_unfold_words
      simp only [View.readAt_eq_ld, harg3.read_unread, h9]
      exact WFilled.step arg11 k h11

end Cert.KernelIdeal.Hand
-- ==== Proof.LoopsC.lean ====
/- The loop over pairs of weight tiles: expand, multiply, accumulate. -/
module

public import proofs.«01_k».proof.Proof.LoopsB
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The four conditions on the grid step: either it is the first, or it is not. -/
theorem conds : ∀ i : grid0.Coords,
    (k0_cond1 i = 1#1 ∧ ¬ k0_cond2 i = 1#1 ∧ k0_cond3 i = 1#1 ∧ ¬ k0_cond4 i = 1#1)
    ∨ (¬ k0_cond1 i = 1#1 ∧ k0_cond2 i = 1#1 ∧ ¬ k0_cond3 i = 1#1 ∧ k0_cond4 i = 1#1) := by decide +kernel

/-- The accumulator's block for the even outputs of pair `n` after the step. -/
def accLo (i : grid0.Coords) (dy : Vec F S128x1024 .bf16) (wlo : Vec F S1024x256 .bf16) (prev : Vec F S128x4096 .f32)
    (n : Fin k0_t3_loop.trips) : FVec F S128x256 .f32 :=
  if k0_cond1 i = 1#1 then k0_pay35 dy wlo
  else k0_pay36 dy wlo (fun x => prev (ValueIdx.ix2 (x 0) ⟨256 * n.val + (x 1).val, by
    have h := lt_of_lt_of_eq n.isLt trips3
    have h1 : (x 1).val < 256 := (x 1).isLt
    omega⟩))

/-- The accumulator's block for the odd outputs of pair `n` after the step. -/
def accHi (i : grid0.Coords) (dy : Vec F S128x1024 .bf16) (whi : Vec F S1024x256 .bf16) (prev : Vec F S128x4096 .f32)
    (n : Fin k0_t3_loop.trips) : FVec F S128x256 .f32 :=
  if k0_cond1 i = 1#1 then k0_pay38 dy whi
  else k0_pay1 (k0_pay37 dy whi) (fun x => prev (ValueIdx.ix2 (x 0) ⟨256 * n.val + 2048 + (x 1).val, by
    have h := lt_of_lt_of_eq n.isLt trips3
    have h1 : (x 1).val < 256 := (x 1).isLt
    omega⟩))

/-- The accumulator after the step: columns below 2048 hold the even outputs, the others the odd ones, 256 columns to a
    pair of weight tiles. -/
def accSpec (i : grid0.Coords) (dy : Vec F S128x1024 .bf16) (wlo whi : Fin k0_t3_loop.trips → Vec F S1024x256 .bf16)
    (prev : Vec F S128x4096 .f32) : Vec F S128x4096 .f32 := fun j =>
  let n : Fin k0_t3_loop.trips := ⟨(j 1).val % 2048 / 256, by rw [trips3]; omega⟩
  let x : S128x256.Idx := ValueIdx.ix2 (j 0) ⟨(j 1).val % 256, by omega⟩
  if (j 1).val < 2048 then accLo i dy (wlo n) prev n x else accHi i dy (whi n) prev n x

/-- The accumulator after the first `n` pairs of the step. -/
def AccFilled (spec prev : Vec F S128x4096 .f32) (n : ℕ) (y : Vec F S128x4096 .f32) : Prop :=
  ∀ j, y j = if (j 1).val % 2048 / 256 < n then spec j else prev j

theorem AccFilled.zero (spec prev : Vec F S128x4096 .f32) : AccFilled spec prev 0 prev := fun j => by
  rw [if_neg (Nat.not_lt_zero _)]

/-- The accumulator after the first `n` pairs, as a value; before the first pair it is what the step found. -/
def accPart (spec prev : Vec F S128x4096 .f32) : ℕ → Vec F S128x4096 .f32
  | 0 => prev
  | n + 1 => fun j => if (j 1).val % 2048 / 256 < n + 1 then spec j else prev j

theorem AccFilled.iff {spec prev y : Vec F S128x4096 .f32} {n : ℕ} : AccFilled spec prev n y ↔ y = accPart spec prev n := by
  cases n with
  | zero =>
    refine ⟨fun h => funext fun j => (h j).trans (if_neg (Nat.not_lt_zero _)), fun h => ?_⟩
    rw [h]
    exact AccFilled.zero spec prev
  | succ n => exact ⟨fun h => funext fun j => h j, fun h j => congrFun h j⟩

theorem AccFilled.full {spec prev y : Vec F S128x4096 .f32} (h : AccFilled spec prev 8 y) : y = spec :=
  funext fun j => (h j).trans (if_pos (by omega))

/-- Writing the two blocks of pair `t3` fills one more pair. -/
theorem AccFilled.step {i : grid0.Coords} {dy : Vec F S128x1024 .bf16}
    {wlo whi : Fin k0_t3_loop.trips → Vec F S1024x256 .bf16} {prev : Vec F S128x4096 .f32}
    (m : Memref sig .tc .vmem S128x4096 .f32) {f : BufTy.Contents (Elt F) m.view.ty} (t3 : Fin k0_t3_loop.trips)
    {offL offH : Fin 2 → ℕ} (inbL : ∀ a, offL a + S128x256.size a ≤ S128x4096.size a)
    (inbH : ∀ a, offH a + S128x256.size a ≤ S128x4096.size a)
    (eL : offL = ![0, 256 * t3.val]) (eH : offH = ![0, 256 * t3.val + 2048])
    (h : AccFilled (accSpec i dy wlo whi prev) prev t3.val (m.view.read (Elt F) f)) :
    AccFilled (accSpec i dy wlo whi prev) prev (t3.val + 1) (m.view.read (Elt F) (m.view.writes (Elt F) f
      [⟨Rect.unit (s := S128x4096) offH S128x256.size inbH, accHi i dy (whi t3) prev t3⟩,
       ⟨Rect.unit (s := S128x4096) offL S128x256.size inbL, accLo i dy (wlo t3) prev t3⟩])) := by
  intro j
  have h3 : t3.val < 8 := lt_of_lt_of_eq t3.isLt trips3
  have h1 : (j 1).val < 4096 := (j 1).isLt
  by_cases hu : (j 1).val % 2048 / 256 = t3.val
  · have e1 : t3 = ⟨(j 1).val % 2048 / 256, by rw [trips3]; omega⟩ := Fin.ext hu.symm
    rw [if_pos (by omega)]
    by_cases hl : (j 1).val < 2048
    · rw [View.read_writes_cons_unit_of_not_mem m.view f inbH _ _ j eH 1 (by
          show (j 1).val < 256 * t3.val + 2048 ∨ 256 * t3.val + 2048 + 256 ≤ (j 1).val
          omega),
        View.read_writes_cons_unit_of_mem m.view f inbL _ _ j
          (ValueIdx.ix2 (j 0) (⟨(j 1).val % 256, by omega⟩ : Fin 256)) eL (by
          intro a
          fin_cases a
          · show (j 0).val = 0 + (j 0).val
            omega
          · show (j 1).val = 256 * t3.val + (j 1).val % 256
            omega)]
      unfold accSpec
      rw [if_pos hl, ← e1]
    · rw [View.read_writes_cons_unit_of_mem m.view f inbH _ _ j
          (ValueIdx.ix2 (j 0) (⟨(j 1).val % 256, by omega⟩ : Fin 256)) eH (by
          intro a
          fin_cases a
          · show (j 0).val = 0 + (j 0).val
            omega
          · show (j 1).val = 256 * t3.val + 2048 + (j 1).val % 256
            omega)]
      unfold accSpec
      rw [if_neg hl, ← e1]
  · rw [View.read_writes_cons_unit_of_not_mem m.view f inbH _ _ j eH 1 (by
          show (j 1).val < 256 * t3.val + 2048 ∨ 256 * t3.val + 2048 + 256 ≤ (j 1).val
          omega),
      View.read_writes_cons_unit_of_not_mem m.view f inbL _ _ j eL 1 (by
          show (j 1).val < 256 * t3.val ∨ 256 * t3.val + 256 ≤ (j 1).val
          omega)]
    refine (h j).trans ?_
    by_cases hn : (j 1).val % 2048 / 256 < t3.val
    · rw [if_pos hn, if_pos (by omega)]
    · rw [if_neg hn, if_neg (by omega)]

/-- A block of pair `t3` read before the pair is filled holds what the step found. -/
theorem AccFilled.ld_lo {spec prev y : Vec F S128x4096 .f32} (t3 : Fin k0_t3_loop.trips) {off : Fin 2 → ℕ}
    (inb : ∀ a, off a + S128x256.size a ≤ S128x4096.size a) (e : off = ![0, 256 * t3.val])
    (h : AccFilled spec prev t3.val y) :
    View.ld y (Rect.unit (s := S128x4096) off S128x256.size inb)
      = fun x => prev (ValueIdx.ix2 (x 0) ⟨256 * t3.val + (x 1).val, by
          have h := lt_of_lt_of_eq t3.isLt trips3
          have h1 : (x 1).val < 256 := (x 1).isLt
          omega⟩) := by
  subst e
  have h3 : t3.val < 8 := lt_of_lt_of_eq t3.isLt trips3
  funext x
  have h1 : (x 1).val < 256 := (x 1).isLt
  have hx : (Rect.unit (s := S128x4096) ![0, 256 * t3.val] S128x256.size inb).idx x
      = ValueIdx.ix2 (x 0) ⟨256 * t3.val + (x 1).val, by omega⟩ := by
    funext a
    refine Fin.ext ?_
    fin_cases a
    · show 0 + 1 * (x 0).val = (x 0).val
      omega
    · show 256 * t3.val + 1 * (x 1).val = 256 * t3.val + (x 1).val
      omega
  refine ((congrArg y hx).trans (h _)).trans (if_neg ?_)
  show ¬ (256 * t3.val + (x 1).val) % 2048 / 256 < t3.val
  omega

/-- The same for the odd outputs' block. -/
theorem AccFilled.ld_hi {spec prev y : Vec F S128x4096 .f32} (t3 : Fin k0_t3_loop.trips) {off : Fin 2 → ℕ}
    (inb : ∀ a, off a + S128x256.size a ≤ S128x4096.size a) (e : off = ![0, 256 * t3.val + 2048])
    (h : AccFilled spec prev t3.val y) :
    View.ld y (Rect.unit (s := S128x4096) off S128x256.size inb)
      = fun x => prev (ValueIdx.ix2 (x 0) ⟨256 * t3.val + 2048 + (x 1).val, by
          have h := lt_of_lt_of_eq t3.isLt trips3
          have h1 : (x 1).val < 256 := (x 1).isLt
          omega⟩) := by
  subst e
  have h3 : t3.val < 8 := lt_of_lt_of_eq t3.isLt trips3
  funext x
  have h1 : (x 1).val < 256 := (x 1).isLt
  have hx : (Rect.unit (s := S128x4096) ![0, 256 * t3.val + 2048] S128x256.size inb).idx x
      = ValueIdx.ix2 (x 0) ⟨256 * t3.val + 2048 + (x 1).val, by omega⟩ := by
    funext a
    refine Fin.ext ?_
    fin_cases a
    · show 0 + 1 * (x 0).val = (x 0).val
      omega
    · show 256 * t3.val + 2048 + 1 * (x 1).val = 256 * t3.val + 2048 + (x 1).val
      omega
  refine ((congrArg y hx).trans (h _)).trans (if_neg ?_)
  show ¬ (256 * t3.val + 2048 + (x 1).val) % 2048 / 256 < t3.val
  omega

/-- The same step, for blocks given by equations. -/
theorem AccFilled.step' {i : grid0.Coords} {dy : Vec F S128x1024 .bf16}
    {wlo whi : Fin k0_t3_loop.trips → Vec F S1024x256 .bf16} {prev : Vec F S128x4096 .f32}
    (m : Memref sig .tc .vmem S128x4096 .f32) {f : BufTy.Contents (Elt F) m.view.ty} (t3 : Fin k0_t3_loop.trips)
    {offL offH : Fin 2 → ℕ} (inbL : ∀ a, offL a + S128x256.size a ≤ S128x4096.size a)
    (inbH : ∀ a, offH a + S128x256.size a ≤ S128x4096.size a)
    (eL : offL = ![0, 256 * t3.val]) (eH : offH = ![0, 256 * t3.val + 2048]) {vL vH : FVec F S128x256 .f32}
    (hL : vL = accLo i dy (wlo t3) prev t3) (hH : vH = accHi i dy (whi t3) prev t3)
    (h : AccFilled (accSpec i dy wlo whi prev) prev t3.val (m.view.read (Elt F) f)) :
    AccFilled (accSpec i dy wlo whi prev) prev (t3.val + 1) (m.view.read (Elt F) (m.view.writes (Elt F) f
      [⟨Rect.unit (s := S128x4096) offH S128x256.size inbH, vH⟩,
       ⟨Rect.unit (s := S128x4096) offL S128x256.size inbL, vL⟩])) := by
  subst hL hH
  exact AccFilled.step m t3 inbL inbH eL eH h

set_option warn.classDefReducibility false in
/-- Before trip `t3` the blocks of the earlier pairs are accumulated and the others are as the step found them. -/
@[sl_loop] def loopInv_t3 (𝒱 : Variants) (c : Dev nD) (bd : Option 𝒱.V) (E : Set ℕ) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole)
    (arg0 : BitVec 32) (v26 : IVec S16x128 32) (v30 : IVec S32x128 8) (v32 : IVec S32x128 8) (v37 : IVec S32x128 1)
    (dy : Vec F S128x1024 .bf16) (w : Vec F S1024x2048 .i8) (a : Vec F S512x128 .bf16) (prev : Vec F S128x4096 .f32) :
    LoopInv (M := MT nD τ sig Unit (Elt F) ℕ (UR sig nD τ) ℕ) Idealize.ShloMosaic.frame (wpE defs₀ 𝒱 (c : Thread nD τ) bd) E
      k0_t3_loop.lb k0_t3_loop.ub k0_t3_loop.st k0_t3_ok () (k0_t3_body (F := F) i arg1 harg1 arg2 harg2 arg3 harg3 arg4 harg4 arg5 harg5 arg6 harg6 arg7 harg7 arg8 harg8 arg9 harg9 arg10 harg10 arg11 harg11 arg0 v26 v30 v32 v37) where
  inv k _ := iprop((arg2.view.loc (c : Thread nD τ) ↦[arg2.view.set]{fullShare} harg2.unread dy)
    ∗ (arg3.view.loc (c : Thread nD τ) ↦[arg3.view.set]{fullShare} harg3.unread w)
    ∗ (∃ f9, (arg9.view.loc (c : Thread nD τ) ↦[arg9.view.set]{fullShare} f9) ∗ ⌜arg9.view.read (Elt F) f9 = a⌝)
    ∗ (∃ f8, (arg8.view.loc (c : Thread nD τ) ↦[arg8.view.set]{fullShare} f8)
        ∗ ⌜arg8.view.read (Elt F) f8 = accPart (accSpec i dy (fun n => wSpec (loTile v26 v30 v32 (tripWord n.val) w a n))
            (fun n => wSpec (hiTile v26 v30 v32 v37 (tripWord n.val) w a n)) prev) prev k⌝)
    ∗ (∃ f10, (arg10.view.loc (c : Thread nD τ) ↦[arg10.view.set]{fullShare} f10))
    ∗ (∃ f11, (arg11.view.loc (c : Thread nD τ) ↦[arg11.view.set]{fullShare} f11)))
  step k acc := by
    have hk : k.val < 8 := lt_of_lt_of_eq k.isLt trips3
    have zz : (![0, 0] : Fin 2 → ℕ) = fun _ => 0 := by funext a; fin_cases a <;> rfl
    rcases conds i with ⟨hc1, hc2, hc3, hc4⟩ | ⟨hc1, hc2, hc3, hc4⟩
    · unfold k0_t3_body
      iintro ⟨H2, H3, ⟨%f9, H9, %h9⟩, ⟨%f8, H8, %h8⟩, ⟨%f10, H10⟩, ⟨%f11, H11⟩⟩
      replace h8 := AccFilled.iff.mpr h8
      have z10 := WFilled.zero (loTile v26 v30 v32 (tripWord k.val) w (arg9.view.read (Elt F) f9) k) (arg10.view.read (Elt F) f10)
      have z11 := WFilled.zero (hiTile v26 v30 v32 v37 (tripWord k.val) w (arg9.view.read (Elt F) f9) k) (arg11.view.read (Elt F) f11)
      sl_exec (disch := first | sl_exact hc1 | sl_exact hc2 | sl_exact hc3 | sl_exact hc4)
      sl_step
      isplitl [H2]; · iexact H2
      isplitl [H3]; · iexact H3
      isplitl [H9]
      · iexists _
        isplitl [H9]; · iexact H9
        ipureintro
        exact hL2.trans h9
      isplitl [H8]
      · iexists _
        isplitl [H8]; · iexact H8
        ipureintro
        subst h9
        have e10' : arg10.view.read (Elt F) f10L1 = wSpec (loTile v26 v30 v32 (tripWord k.val) w (arg9.view.read (Elt F) f9) k) :=
          WFilled.full hL4
        have e11' : arg11.view.read (Elt F) f11L2 = wSpec (hiTile v26 v30 v32 v37 (tripWord k.val) w (arg9.view.read (Elt F) f9) k) :=
          WFilled.full hL6
        refine AccFilled.iff.mp ?_
        refine AccFilled.step' arg8 k _ _ (k0_off8_eq k) (k0_off10_eq k) ?_ ?_ h8
        · refine Eq.trans ?_ (if_pos hc1).symm
          show k0_pay35 (View.ld (arg2.view.read (Elt F) (harg2.unread dy)) (Rect.unit ![0, 0] S128x1024.size inb_S128x1024_S128x1024_0_0))
            (View.ld (arg10.view.read (Elt F) f10L1) (Rect.unit ![0, 0] S1024x256.size inb_S1024x256_S1024x256_0_0)) = _
          rw [harg2.read_unread, e10', View.ld_unit_zero (S := S128x1024) zz, View.ld_unit_zero (S := S1024x256) zz]
        · refine Eq.trans ?_ (if_pos hc1).symm
          show k0_pay38 (View.ld (arg2.view.read (Elt F) (harg2.unread dy)) (Rect.unit ![0, 0] S128x1024.size inb_S128x1024_S128x1024_0_0))
            (View.ld (arg11.view.read (Elt F) f11L2) (Rect.unit ![0, 0] S1024x256.size inb_S1024x256_S1024x256_0_0)) = _
          rw [harg2.read_unread, e11', View.ld_unit_zero (S := S128x1024) zz, View.ld_unit_zero (S := S1024x256) zz]
      isplitl [H10]
      · iexists _
        iexact H10
      · iexists _
        iexact H11
    · unfold k0_t3_body
      iintro ⟨H2, H3, ⟨%f9, H9, %h9⟩, ⟨%f8, H8, %h8⟩, ⟨%f10, H10⟩, ⟨%f11, H11⟩⟩
      replace h8 := AccFilled.iff.mpr h8
      have z10 := WFilled.zero (loTile v26 v30 v32 (tripWord k.val) w (arg9.view.read (Elt F) f9) k) (arg10.view.read (Elt F) f10)
      have z11 := WFilled.zero (hiTile v26 v30 v32 v37 (tripWord k.val) w (arg9.view.read (Elt F) f9) k) (arg11.view.read (Elt F) f11)
      sl_exec (disch := first | sl_exact hc1 | sl_exact hc2 | sl_exact hc3 | sl_exact hc4)
      sl_step
      isplitl [H2]; · iexact H2
      isplitl [H3]; · iexact H3
      isplitl [H9]
      · iexists _
        isplitl [H9]; · iexact H9
        ipureintro
        exact hL2.trans h9
      isplitl [H8]
      · iexists _
        isplitl [H8]; · iexact H8
        ipureintro
        subst h9
        have e10' : arg10.view.read (Elt F) f10L1 = wSpec (loTile v26 v30 v32 (tripWord k.val) w (arg9.view.read (Elt F) f9) k) :=
          WFilled.full hL4
        have e11' : arg11.view.read (Elt F) f11L2 = wSpec (hiTile v26 v30 v32 v37 (tripWord k.val) w (arg9.view.read (Elt F) f9) k) :=
          WFilled.full hL6
        refine AccFilled.iff.mp ?_
        refine AccFilled.step' arg8 k _ _ (k0_off9_eq k) (k0_off11_eq k) ?_ ?_ h8
        · refine Eq.trans ?_ (if_neg hc1).symm
          show k0_pay36 (View.ld (arg2.view.read (Elt F) (harg2.unread dy)) (Rect.unit ![0, 0] S128x1024.size inb_S128x1024_S128x1024_0_0))
            (View.ld (arg10.view.read (Elt F) f10L1) (Rect.unit ![0, 0] S1024x256.size inb_S1024x256_S1024x256_0_0))
            (View.ld (arg8.view.read (Elt F) f8) (Rect.unit (k0_off9 k) S128x256.size (k0_off9_inb i k hc2))) = _
          rw [harg2.read_unread, e10', View.ld_unit_zero (S := S128x1024) zz, View.ld_unit_zero (S := S1024x256) zz,
            AccFilled.ld_lo k _ (k0_off9_eq k) h8]
          rfl
        · refine Eq.trans ?_ (if_neg hc1).symm
          show k0_pay1 (k0_pay37 (View.ld (arg2.view.read (Elt F) (harg2.unread dy)) (Rect.unit ![0, 0] S128x1024.size inb_S128x1024_S128x1024_0_0))
            (View.ld (arg11.view.read (Elt F) f11L2) (Rect.unit ![0, 0] S1024x256.size inb_S1024x256_S1024x256_0_0)))
            (View.ld (arg8.view.read (Elt F) f8) (Rect.unit (k0_off11 k) S128x256.size (k0_off11_inb i k hc4))) = _
          rw [harg2.read_unread, e11', View.ld_unit_zero (S := S128x1024) zz, View.ld_unit_zero (S := S1024x256) zz,
            AccFilled.ld_hi k _ (k0_off11_eq k) h8]
          rfl
      isplitl [H10]
      · iexists _
        iexact H10
      · iexists _
        iexact H11

end Cert.KernelIdeal.Hand
-- ==== Proof.Body.lean ====
/- One grid step: what the body leaves in the accumulator, and at the last step in the output block. -/
module

public import proofs.«01_k».proof.Proof.LoopsC
public import Idealize.ShloMosaic.Lib.Pipeline.Value
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block scales of the step. -/
def stepA (i : grid0.Coords) (x0 : Vec F S1 .f32) (x3 : Vec F S1024x64 .i8) (x4 : Vec F S28x128 .f32) : Vec F S512x128 .bf16 :=
  aSpec i (iota .tc S8x128 32 [0] iota_S8x128_d0_w32) (View.ld x0 (Rect.unit (s := S1) ![0] S1.size inb_S1_S1_0) (Shape.Idx.first (numel1_S1 ▸ Nat.one_pos))) x3 x4

/-- The low bytes of the table. -/
def tabLo (x5 : Vec F S2x32x128 .i8) : IVec S32x128 8 :=
  k0_pay42 (F := F) (View.ld x5 (Rect.unit (s := S2x32x128) ![0, 0, 0] S1x32x128.size inb_S2x32x128_S1x32x128_0_0_0))

/-- The high bytes of the table. -/
def tabHi (x5 : Vec F S2x32x128 .i8) : IVec S32x128 8 :=
  k0_pay43 (F := F) (View.ld x5 (Rect.unit (s := S2x32x128) ![1, 0, 0] S1x32x128.size inb_S2x32x128_S1x32x128_1_0_0))

/-- The even outputs' weights of pair `n`. -/
def stepLo (x2 : Vec F S1024x2048 .i8) (x5 : Vec F S2x32x128 .i8) (a : Vec F S512x128 .bf16) (n : Fin k0_t3_loop.trips) :
    Vec F S1024x256 .bf16 :=
  wSpec (loTile k0_pay40 (tabLo x5) (tabHi x5) (tripWord n.val) x2 a n)

/-- The odd outputs' weights of pair `n`. -/
def stepHi (x2 : Vec F S1024x2048 .i8) (x5 : Vec F S2x32x128 .i8) (a : Vec F S512x128 .bf16) (n : Fin k0_t3_loop.trips) :
    Vec F S1024x256 .bf16 :=
  wSpec (hiTile k0_pay40 (tabLo x5) (tabHi x5) k0_pay44 (tripWord n.val) x2 a n)

/-- The accumulator after the step, from the step's blocks and the accumulator before it. -/
def stepAcc (i : grid0.Coords) (x0 : Vec F S1 .f32) (x1 : Vec F S128x1024 .bf16) (x2 : Vec F S1024x2048 .i8)
    (x3 : Vec F S1024x64 .i8) (x4 : Vec F S28x128 .f32) (x5 : Vec F S2x32x128 .i8) (prev : Vec F S128x4096 .f32) :
    Vec F S128x4096 .f32 :=
  accSpec i x1 (stepLo x2 x5 (stepA i x0 x3 x4)) (stepHi x2 x5 (stepA i x0 x3 x4)) prev

theorem zero2 : (![0, 0] : Fin 2 → ℕ) = fun _ => 0 := by decide

/-- A store of the whole output block leaves what it stored. -/
theorem out_read (v : View sig .tc .vmem S128x4096 .bf16) (f : v.ty.Contents (Elt F)) (w : Vec F S128x4096 .bf16) :
    v.read (Elt F) (v.writes (Elt F) f
      [⟨Rect.unit (s := S128x4096) ![0, 0] S128x4096.size inb_S128x4096_S128x4096_0_0, w⟩]) = w :=
  View.read_writes_full v f inb_S128x4096_S128x4096_0_0 w []

set_option maxHeartbeats 400000 in
/-- The body at a step that is not the last: the accumulator advances, everything else it was lent comes back. -/
theorem body_mid (c : Dev nD) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole) (hc : ¬ k0_cond5 i = 1#1)
    (x0 : Vec F S1 .f32) (x1 : Vec F S128x1024 .bf16) (x2 : Vec F S1024x2048 .i8) (x3 : Vec F S1024x64 .i8)
    (x4 : Vec F S28x128 .f32) (x5 : Vec F S2x32x128 .i8) (x6 : Vec F S128x4096 .bf16) (prev : Vec F S128x4096 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare prev
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (stepAcc i x0 x1 x2 x3 x4 x5 prev)
            ∗ (∃ d, owns (c : Thread nD τ) arg9 fullShare d) ∗ (∃ d, owns (c : Thread nD τ) arg10 fullShare d)
            ∗ (∃ d, owns (c : Thread nD τ) arg11 fullShare d)) -∗ K PUnit.unit))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11) K := by
  simp only [cc0_nf4_dx_eq_skeleton]; unfold cc0_nf4_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have z9 : AFilled (F := F) (aSpec (F := F) i (iota .tc S8x128 32 [0] iota_S8x128_d0_w32) (arg1.view.readAt (Elt F) (Rect.unit (s := S1) ![0] S1.size inb_S1_S1_0).toLoadRect (harg1.unread x0) (Shape.Idx.first (numel1_S1 ▸ Nat.one_pos))) x3 x4) 0 (arg9.view.read (Elt F) f9) := AFilled.zero _ _
  subst hf8
  sl_exec (disch := first | sl_exact hc)
  sl_step
  have ea : arg9.view.read (Elt F) f9L0 = stepA i x0 x3 x4 := by
    refine (AFilled.full hL3).trans ?_
    show aSpec i _ (arg1.view.readAt (Elt F) (Rect.unit (s := S1) ![0] S1.size inb_S1_S1_0).toLoadRect (harg1.unread x0) (Shape.Idx.first (numel1_S1 ▸ Nat.one_pos))) x3 x4 = _
    rw [View.readAt_eq_ld, harg1.read_unread]
    rfl
  have e8 : arg8.view.read (Elt F) f8L2 = stepAcc i x0 x1 x2 x3 x4 x5 (arg8.view.read (Elt F) f8) := by
    refine (AccFilled.iff.mpr hL9).full.trans ?_
    rw [ea]
    show accSpec i x1 (stepLo x2 (arg6.view.read (Elt F) (harg6.unread x5)) (stepA i x0 x3 x4))
      (stepHi x2 (arg6.view.read (Elt F) (harg6.unread x5)) (stepA i x0 x3 x4)) (arg8.view.read (Elt F) f8) = _
    rw [harg6.read_unread]
    rfl
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H8]
  · iexists _; isplitr
    · ipureintro; exact e8
    · iexact H8
  isplitl [H9]
  · iexists (arg9.view.read (Elt F) f9L1), f9L1; isplitr
    · ipureintro; rfl
    · iexact H9
  isplitl [H10]
  · iexists (arg10.view.read (Elt F) f10L3), f10L3; isplitr
    · ipureintro; rfl
    · iexact H10
  iexists (arg11.view.read (Elt F) f11L4), f11L4; isplitr
  · ipureintro; rfl
  · iexact H11

set_option maxHeartbeats 400000 in
/-- The body at the last step: the accumulator advances, and the output block is the accumulator rounded. -/
theorem body_last (c : Dev nD) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole) (hc : k0_cond5 i = 1#1)
    (x0 : Vec F S1 .f32) (x1 : Vec F S128x1024 .bf16) (x2 : Vec F S1024x2048 .i8) (x3 : Vec F S1024x64 .i8)
    (x4 : Vec F S28x128 .f32) (x5 : Vec F S2x32x128 .i8) (prev : Vec F S128x4096 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ owns (c : Thread nD τ) arg8 fullShare prev
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k0_pay2 (stepAcc i x0 x1 x2 x3 x4 x5 prev))
            ∗ owns (c : Thread nD τ) arg8 fullShare (stepAcc i x0 x1 x2 x3 x4 x5 prev)
            ∗ (∃ d, owns (c : Thread nD τ) arg9 fullShare d) ∗ (∃ d, owns (c : Thread nD τ) arg10 fullShare d)
            ∗ (∃ d, owns (c : Thread nD τ) arg11 fullShare d)) -∗ K PUnit.unit))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11) K := by
  simp only [cc0_nf4_dx_eq_skeleton]; unfold cc0_nf4_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have z9 : AFilled (F := F) (aSpec (F := F) i (iota .tc S8x128 32 [0] iota_S8x128_d0_w32) (arg1.view.readAt (Elt F) (Rect.unit (s := S1) ![0] S1.size inb_S1_S1_0).toLoadRect (harg1.unread x0) (Shape.Idx.first (numel1_S1 ▸ Nat.one_pos))) x3 x4) 0 (arg9.view.read (Elt F) f9) := AFilled.zero _ _
  subst hf8
  sl_exec (disch := first | sl_exact hc)
  sl_step
  have ea : arg9.view.read (Elt F) f9L0 = stepA i x0 x3 x4 := by
    refine (AFilled.full hL3).trans ?_
    show aSpec i _ (arg1.view.readAt (Elt F) (Rect.unit (s := S1) ![0] S1.size inb_S1_S1_0).toLoadRect (harg1.unread x0) (Shape.Idx.first (numel1_S1 ▸ Nat.one_pos))) x3 x4 = _
    rw [View.readAt_eq_ld, harg1.read_unread]
    rfl
  have e8 : arg8.view.read (Elt F) f8L2 = stepAcc i x0 x1 x2 x3 x4 x5 (arg8.view.read (Elt F) f8) := by
    refine (AccFilled.iff.mpr hL9).full.trans ?_
    rw [ea]
    show accSpec i x1 (stepLo x2 (arg6.view.read (Elt F) (harg6.unread x5)) (stepA i x0 x3 x4))
      (stepHi x2 (arg6.view.read (Elt F) (harg6.unread x5)) (stepA i x0 x3 x4)) (arg8.view.read (Elt F) f8) = _
    rw [harg6.read_unread]
    rfl
  have e7 : ∀ f : BufTy.Contents (Elt F) arg7.view.ty, arg7.view.read (Elt F) (arg7.view.writes (Elt F) f
      [⟨Rect.unit (s := S128x4096) ![0, 0] S128x4096.size inb_S128x4096_S128x4096_0_0,
        k0_pay2 (arg8.view.readAt (Elt F) (Rect.unit (s := S128x4096) ![0, 0] S128x4096.size inb_S128x4096_S128x4096_0_0).toLoadRect f8L2)⟩])
      = k0_pay2 (stepAcc i x0 x1 x2 x3 x4 x5 (arg8.view.read (Elt F) f8)) := by
    intro f
    rw [View.readAt_eq_ld, e8, View.ld_unit_zero (S := S128x4096) zero2]
    exact out_read arg7.view f _
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact e7 f6
    · iexact H6
  isplitl [H8]
  · iexists _; isplitr
    · ipureintro; exact e8
    · iexact H8
  isplitl [H9]
  · iexists (arg9.view.read (Elt F) f9L1), f9L1; isplitr
    · ipureintro; rfl
    · iexact H9
  isplitl [H10]
  · iexists (arg10.view.read (Elt F) f10L3), f10L3; isplitr
    · ipureintro; rfl
    · iexact H10
  iexists (arg11.view.read (Elt F) f11L4), f11L4; isplitr
  · ipureintro; rfl
  · iexact H11

end Cert.KernelIdeal.Hand
-- ==== Proof.Run.lean ====
/- The whole run: the accumulator point by point, the invariant that carries it, and the launch. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val = 0 :=
  (by decide +kernel : ∀ t : Fin grid0.N, k0_cond1 (grid0.coords t) = 1#1 ↔ t.val = 0)

theorem cond5_iff : ∀ t : Fin cfg0.N, k0_cond5 (grid0.coords t) = 1#1 ↔ t.val = 13 :=
  (by decide +kernel : ∀ t : Fin grid0.N, k0_cond5 (grid0.coords t) = 1#1 ↔ t.val = 13)

theorem idle6 : ∀ t : Fin cfg0.N, ¬ k0_cond5 (grid0.coords t) = 1#1 → cfg0.idle 6 (grid0.coords t) = true := by decide +kernel

theorem live6 : ∀ t : Fin cfg0.N, k0_cond5 (grid0.coords t) = 1#1 → cfg0.idle 6 (grid0.coords t) = false := by decide +kernel

theorem noFlush6 : ∀ t : Fin cfg0.N, ¬ k0_cond5 (grid0.coords t) = 1#1 → (cfg0.win 6).flush t = false := by decide +kernel

/-- The accumulator after point `t`, from the accumulator before it. -/
def stepAt (c : Dev nD) (t : Fin cfg0.N) (prev : Vec F S128x4096 .f32) : Vec F S128x4096 .f32 :=
  stepAcc (grid0.coords t) (iblk m c 0 t) (iblk m c 1 t) (iblk m c 2 t) (iblk m c 3 t) (iblk m c 4 t) (iblk m c 5 t) prev

/-- At the first point the accumulator before it does not matter: every block is stored, none is added to. -/
theorem stepAcc_first (i : grid0.Coords) (h : k0_cond1 i = 1#1) (x0 : Vec F S1 .f32) (x1 : Vec F S128x1024 .bf16)
    (x2 : Vec F S1024x2048 .i8) (x3 : Vec F S1024x64 .i8) (x4 : Vec F S28x128 .f32) (x5 : Vec F S2x32x128 .i8)
    (p p' : Vec F S128x4096 .f32) : stepAcc i x0 x1 x2 x3 x4 x5 p = stepAcc i x0 x1 x2 x3 x4 x5 p' := by
  unfold stepAcc accSpec accLo accHi
  simp only [if_pos h]

/-- The accumulator after point `n`. -/
def accAt (c : Dev nD) : (n : ℕ) → n < cfg0.N → Vec F S128x4096 .f32
  | 0, h => stepAt m c ⟨0, h⟩ (fun _ => FloatOps.ofBits .f32 0#32)
  | n + 1, h => stepAt m c ⟨n + 1, h⟩ (accAt c n (Nat.lt_of_succ_lt h))

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev ms0_0 (t : Fin cfg0.N) : Memref sig .tc .smem S1 .f32 := win0_0.stage (cfg0.slots t 0)
abbrev ms0_1 (t : Fin cfg0.N) : Memref sig .tc .vmem S128x1024 .bf16 := win0_1.stage (cfg0.slots t 1)
abbrev ms0_2 (t : Fin cfg0.N) : Memref sig .tc .vmem S1024x2048 .i8 := win0_2.stage (cfg0.slots t 2)
abbrev ms0_3 (t : Fin cfg0.N) : Memref sig .tc .vmem S1024x64 .i8 := win0_3.stage (cfg0.slots t 3)
abbrev ms0_4 (t : Fin cfg0.N) : Memref sig .tc .vmem S28x128 .f32 := win0_4.stage (cfg0.slots t 4)
abbrev ms0_5 (t : Fin cfg0.N) : Memref sig .tc .vmem S2x32x128 .i8 := win0_5.stage (cfg0.slots t 5)
abbrev ms0_6 (t : Fin cfg0.N) : Memref sig .tc .vmem S128x4096 .bf16 := win0_6.stage (cfg0.slots t 6)
/-- The scratch operands: whole scoped buffers of the kernel's own, passed beside the windows. -/
abbrev scM0_0 : Memref sig .tc .vmem S128x4096 .f32 := Memref.whole cc0_scratch0
abbrev scM0_1 : Memref sig .tc .vmem S512x128 .bf16 := Memref.whole cc0_scratch1
abbrev scM0_2 : Memref sig .tc .vmem S1024x256 .bf16 := Memref.whole cc0_scratch2
abbrev scM0_3 : Memref sig .tc .vmem S1024x256 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The invariant: the accumulator holds what the last point left, the other scratch buffers anything. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (accAt m c n hn) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (accAt m c (n - 1) (by omega)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `accAt`; the invariant the class's
    (`PhiS`: the class's `ΦA` before the first point, then the scoped rest with the carried scratch at `accAt`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (accAt m c t.val t.isLt)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay2 (accAt m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- Before a point the accumulator is one from which the point's step leads to `accAt`. -/
theorem Phi_in (c : Dev nD) (t : Fin cfg0.N) : (dats m 0 c).Φ t.castSucc ⊢
    iprop(∃ prev, ⌜stepAt m c t prev = accAt m c t.val t.isLt⌝ ∗ owns (c : Thread nD τ) scM0_0 fullShare prev
      ∗ (∃ d, owns (c : Thread nD τ) scM0_1 fullShare d) ∗ (∃ d, owns (c : Thread nD τ) scM0_2 fullShare d)
      ∗ (∃ d, owns (c : Thread nD τ) scM0_3 fullShare d) ∗ (∃ r, prngReg c r)) := by
  obtain ⟨n, hn⟩ := t
  cases n with
  | zero =>
    rw [PhiS_castSucc m c _, PhiS_zero m c _ _ rfl, PhiA0_eq]
    iintro ⟨⟨⟨%d, HS0⟩, HS1, HS2, HS3⟩, Hg⟩
    iexists d
    isplitr
    · ipureintro
      exact stepAcc_first _ ((cond1_iff _).mpr rfl) _ _ _ _ _ _ _ _
    isplitl [HS0]; · iexact HS0
    isplitl [HS1]; · iexact HS1
    isplitl [HS2]; · iexact HS2
    isplitl [HS3]; · iexact HS3
    iexact Hg
  | succ n =>
    rw [PhiS_castSucc m c _, PhiS_succ m c n (Nat.lt_of_succ_lt hn)]
    iintro ⟨⟨HS0, HS1, HS2, HS3⟩, Hg⟩
    iexists (accAt m c n (Nat.lt_of_succ_lt hn))
    isplitr
    · ipureintro
      rfl
    isplitl [HS0]; · iexact HS0
    isplitl [HS1]; · iexact HS1
    isplitl [HS2]; · iexact HS2
    isplitl [HS3]; · iexact HS3
    iexact Hg

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases hc : k0_cond5 (grid0.coords t) = 1#1
  · rw [show (dats m 0 c).leavesExact 6 t = owns (c : Thread nD τ) (ms0_6 t) fullShare ((dats m 0 c).after 6 t) from by
      unfold Dat.leavesExact; rw [live6 t hc], after0_6]
    iintro ⟨HΦ, Ho, ⟨%d0, H0⟩, ⟨%d1, H1⟩, ⟨%d2, H2⟩, ⟨%d3, H3⟩, ⟨%d4, H4⟩, ⟨%d5, H5⟩, ⟨%d6, H6⟩⟩
    icases (Phi_in m c t) $$ HΦ with ⟨%prev, %hp, HS0, HS1, HS2, HS3, Hg⟩
    iapply (body_last c (grid0.coords t) _ _ _ _ _ _ _ _ _ _ _ _ _ _ _ _ _ _ _ _ _ _ hc (iblk m c 0 t) (iblk m c 1 t) (iblk m c 2 t) (iblk m c 3 t) (iblk m c 4 t) (iblk m c 5 t) prev Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · rw [← hp]; iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← hp]; iexact H6
  · rw [Dat.leavesExact_idle (dats m 0 c) 6 t (idle6 t hc) (noFlush6 t hc)]
    iintro ⟨HΦ, Ho, ⟨%d0, H0⟩, ⟨%d1, H1⟩, ⟨%d2, H2⟩, ⟨%d3, H3⟩, ⟨%d4, H4⟩, ⟨%d5, H5⟩, ⟨%d6, H6⟩⟩
    icases (Phi_in m c t) $$ HΦ with ⟨%prev, %hp, HS0, HS1, HS2, HS3, Hg⟩
    iapply (body_mid c (grid0.coords t) _ _ _ _ _ _ _ _ _ _ _ _ _ _ _ _ _ _ _ _ _ _ hc (iblk m c 0 t) (iblk m c 1 t) (iblk m c 2 t) (iblk m c 3 t) (iblk m c 4 t) (iblk m c 5 t) _ prev Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · rw [← hp]; iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Bits.LoopsA.lean ====
/- The two nested loops that decode the block scales. -/
module

public import proofs.«01_k».proof.Proof.Gen.Kernel.Skeleton
public import Idealize.ShloMosaic.Lib.Exec
public import Idealize.ShloMosaic.Lib.Tactic
public import Idealize.ShloMosaic.Lib.WritesUnit
public import Idealize.ShloMosaic.Lib.ValueIdxCore
public import Idealize.ShloMosaic.Lib.Pipeline.FrameBody

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The eight rows of expanded scales used by one trip of the inner loop. -/
def aScale (i : grid0.Coords) (v0 : IVec S8x128 32) (s : Vec F S28x128 .f32) (t1 : Fin k0_t1_loop.trips)
    (t2 : Fin k0_t2_loop.trips) : FVec F S8x128 .f32 :=
  k0_pay3 v0 k0_pay39 0#32 1#32 t2 (View.ld s (Rect.unit (s := S28x128) (k0_off1 i t1) S1x128.size (k0_off1_inb i t1)))

/-- The thirty-two rows of quantized block scales read by one trip of the inner loop, as floats. -/
def aQuant (q : Vec F S1024x64 .i8) (t1 : Fin k0_t1_loop.trips) (t2 : Fin k0_t2_loop.trips) : FVec F S32x128 .f32 :=
  k0_pay4 (View.ld q (Rect.unit (s := S1024x64) (k0_off2 t1 t2) S32x64.size (k0_off2_inb t1 t2)))
    (View.ld q (Rect.unit (s := S1024x64) (k0_off3 t1 t2) S32x64.size (k0_off3_inb t1 t2)))

/-- The thirty-two rows of block scales that trip `(t1, t2)` writes, from the offset word `off`, the expanded scales and
    the quantized values. -/
def aOut (v0 : IVec S8x128 32) (off : Elt F .f32) (v62 : FVec F S8x128 .f32) (v73 : FVec F S32x128 .f32) : FVec F S32x128 .bf16 :=
  k0_pay41 off v62 v73
    (k0_pay7 v0 off v62 v73 4#32 (k0_pay5 v0) (k0_pay6 v0)
      (Scalar.subi (Scalar.extui (Scalar.cmpi .sgt 4#32 0#32)) (Scalar.extui (Scalar.cmpi .slt 4#32 0#32))))
    (k0_pay10 off (k0_pay8 v0 v62) (k0_pay9 v73)) (k0_pay11 v0 off v62 v73) 4#32 (k0_pay12 v0) (k0_pay13 v0)
    (Scalar.extui (Scalar.cmpi .sgt 4#32 0#32)) 0#32

/-- The tile trip `(t1, t2)` writes, from the whole operands. -/
def aTile (i : grid0.Coords) (v0 : IVec S8x128 32) (off : Elt F .f32) (q : Vec F S1024x64 .i8) (s : Vec F S28x128 .f32)
    (t1 : Fin k0_t1_loop.trips) (t2 : Fin k0_t2_loop.trips) : FVec F S32x128 .bf16 :=
  aOut v0 off (aScale i v0 s t1 t2) (aQuant q t1 t2)

theorem trips1 : k0_t1_loop.trips = 2 := by decide +kernel
theorem trips2 : k0_t2_loop.trips = 8 := by decide +kernel

/-- The whole scratch of block scales: tile `8 c + i` holds rows `256 c + 32 i` and on. -/
def aSpec (i : grid0.Coords) (v0 : IVec S8x128 32) (off : Elt F .f32) (q : Vec F S1024x64 .i8) (s : Vec F S28x128 .f32) :
    Vec F S512x128 .bf16 := fun j =>
  aTile i v0 off q s
    ⟨(j 0).val / 256, by have h : (j 0).val < 512 := (j 0).isLt; rw [trips1]; omega⟩
    ⟨(j 0).val % 256 / 32, by rw [trips2]; omega⟩
    (ValueIdx.ix2 ⟨(j 0).val % 32, by omega⟩ (j 1))

/-- The first `n` tiles of the scratch hold the block scales. -/
def AFilled (spec : Vec F S512x128 .bf16) (n : ℕ) (y : Vec F S512x128 .bf16) : Prop :=
  ∀ j, (j 0).val / 32 < n → y j = spec j

theorem AFilled.zero (spec y : Vec F S512x128 .bf16) : AFilled spec 0 y := fun _ h => absurd h (Nat.not_lt_zero _)

theorem AFilled.full {spec y : Vec F S512x128 .bf16} (h : AFilled spec 16 y) : y = spec :=
  funext fun j => h j (by have := (j 0).isLt; change (j 0).val < 512 at this; omega)

/-- Writing tile `(t1, t2)` fills one more tile. -/
theorem AFilled.step {i : grid0.Coords} {v0 : IVec S8x128 32} {off : Elt F .f32} {q : Vec F S1024x64 .i8}
    {s : Vec F S28x128 .f32} (arg9 : Memref sig .tc .vmem S512x128 .bf16)
    {f : BufTy.Contents (Elt F) arg9.view.ty} (t1 : Fin k0_t1_loop.trips) (t2 : Fin k0_t2_loop.trips)
    (h : AFilled (aSpec i v0 off q s) (8 * t1.val + t2.val) (arg9.view.read (Elt F) f)) :
    AFilled (aSpec i v0 off q s) (8 * t1.val + (t2.val + 1)) (arg9.view.read (Elt F) (arg9.view.writes (Elt F) f
      [⟨Rect.unit (s := S512x128) (k0_off4 t1 t2) S32x128.size (k0_off4_inb t1 t2), aTile i v0 off q s t1 t2⟩])) := by
  intro j hj
  have h2 : t2.val < 8 := lt_of_lt_of_eq t2.isLt trips2
  have hc : (j 1).val < 128 := (j 1).isLt
  by_cases hin : (j 0).val / 32 = 8 * t1.val + t2.val
  · rw [View.read_writes_cons_unit_of_mem arg9.view f (k0_off4_inb t1 t2) _ [] j
      (ValueIdx.ix2 ⟨(j 0).val % 32, by omega⟩ (j 1)) (k0_off4_eq t1 t2) (by
        intro a
        fin_cases a
        · show (j 0).val = 256 * t1.val + 32 * t2.val + (j 0).val % 32
          omega
        · show (j 1).val = 0 + (j 1).val
          omega)]
    have e1 : t1 = ⟨(j 0).val / 256, by have h : (j 0).val < 512 := (j 0).isLt; rw [trips1]; omega⟩ := Fin.ext (by show t1.val = (j 0).val / 256; omega)
    have e2 : t2 = ⟨(j 0).val % 256 / 32, by rw [trips2]; omega⟩ := Fin.ext (by show t2.val = (j 0).val % 256 / 32; omega)
    unfold aSpec
    rw [← e1, ← e2]
  · rw [View.read_writes_cons_unit_of_not_mem arg9.view f (k0_off4_inb t1 t2) _ [] j (k0_off4_eq t1 t2) 0 (by
      show (j 0).val < 256 * t1.val + 32 * t2.val ∨ 256 * t1.val + 32 * t2.val + 32 ≤ (j 0).val
      omega)]
    exact h j (by omega)

set_option warn.classDefReducibility false in
/-- Before trip `t2` of the inner loop the first `8 t1 + t2` tiles are filled. -/
@[sl_loop] def loopInv_t2 (𝒱 : Variants) (c : Dev nD) (bd : Option 𝒱.V) (E : Set ℕ) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole)
    (arg0 : BitVec 32) (v0 : IVec S8x128 32) (v27 : Elt F .f32) (t1 : Fin k0_t1_loop.trips) (v43 : BitVec 32)
    (q : Vec F S1024x64 .i8) (s : Vec F S28x128 .f32) :
    LoopInv (M := MT nD τ sig Unit (Elt F) ℕ (UR sig nD τ) ℕ) Idealize.ShloMosaic.frame (wpE defs₀ 𝒱 (c : Thread nD τ) bd) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg0 v0 v27 t1 v43) where
  inv k _ := iprop((arg4.view.loc (c : Thread nD τ) ↦[arg4.view.set]{fullShare} harg4.unread q)
    ∗ (arg5.view.loc (c : Thread nD τ) ↦[arg5.view.set]{fullShare} harg5.unread s)
    ∗ (∃ f9, (arg9.view.loc (c : Thread nD τ) ↦[arg9.view.set]{fullShare} f9)
        ∗ ⌜AFilled (aSpec i v0 v27 q s) (8 * t1.val + k) (arg9.view.read (Elt F) f9)⌝))
  step k acc := by
    have hk : k.val < 8 := lt_of_lt_of_eq k.isLt trips2
    unfold k0_t2_body
    iintro ⟨H4, H5, %f9, H9, %hf⟩
    sl_exec
    sl_step
    isplitl [H4]; · iexact H4
    isplitl [H5]; · iexact H5
    iexists _
    isplitl [H9]; · iexact H9
    ipureintro
    sl_unfold_words
    simp only [View.readAt_eq_ld, harg4.read_unread, harg5.read_unread]
    exact AFilled.step arg9 t1 k hf

set_option warn.classDefReducibility false in
/-- Before trip `t1` of the outer loop the first `8 t1` tiles are filled. -/
@[sl_loop] def loopInv_t1 (𝒱 : Variants) (c : Dev nD) (bd : Option 𝒱.V) (E : Set ℕ) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole)
    (arg0 : BitVec 32) (v0 : IVec S8x128 32) (v27 : Elt F .f32)
    (q : Vec F S1024x64 .i8) (s : Vec F S28x128 .f32) :
    LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg0 v0 v27) where
  inv k _ := iprop((arg4.view.loc (c : Thread nD τ) ↦[arg4.view.set]{fullShare} harg4.unread q)
    ∗ (arg5.view.loc (c : Thread nD τ) ↦[arg5.view.set]{fullShare} harg5.unread s)
    ∗ (∃ f9, (arg9.view.loc (c : Thread nD τ) ↦[arg9.view.set]{fullShare} f9)
        ∗ ⌜AFilled (aSpec i v0 v27 q s) (8 * k) (arg9.view.read (Elt F) f9)⌝))
  step k acc := by
    have hk : k.val < 2 := lt_of_lt_of_eq k.isLt trips1
    unfold k0_t1_body
    iintro ⟨H4, H5, %f9, H9, %hf⟩
    sl_exec
    sl_step
    isplitl [H4]; · iexact H4
    isplitl [H5]; · iexact H5
    iexists _
    isplitl [H9]; · iexact H9
    ipureintro
    assumption

end Cert.Kernel.Hand
-- ==== Proof.Bits.LoopsB.lean ====
/- The loop that expands one pair of weight tiles, and the loop over the pairs that multiplies and accumulates. -/
module

public import proofs.«01_k».proof.Proof.Bits.LoopsA

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem trips3 : k0_t3_loop.trips = 8 := by decide +kernel
theorem trips4 : k0_t4_loop.trips = 64 := by decide +kernel

/-- Where trip `t4` stores its two pieces of sixteen rows. -/
theorem off7_eq : ∀ (t4 : Fin k0_t4_loop.trips) (r : Fin 2), k0_off7 t4 (BitVec.ofNat 32 (16 * r.val))
    = ![32 * (t4.val % 32) + 16 * r.val, 128 * (t4.val / 32)] := by decide +kernel

/-- The trip number as the word the program computes. -/
def tripWord (t : ℕ) : BitVec 32 := Scalar.addi 0#32 (Scalar.muli (Scf.iv 0#32 1#32 t) 1#32)

/-- The row tile `t` of trip `t4`. -/
def rowTile (t4 : Fin k0_t4_loop.trips) : BitVec 32 := Scalar.andi (Scalar.shrsi (tripWord t4.val) 3#32) 3#32

/-- The column group `2 n + cg` of trip `t4`. -/
def colGroup (v43 : BitVec 32) (t4 : Fin k0_t4_loop.trips) : BitVec 32 :=
  Scalar.addi (Scalar.muli 2#32 v43) (Scalar.shrsi (tripWord t4.val) 5#32)

/-- The packed bytes trip `(t3, t4)` reads. -/
def wLoad (w : Vec F S1024x2048 .i8) (t3 : Fin k0_t3_loop.trips) (t4 : Fin k0_t4_loop.trips) : Vec F S32x128 .i8 :=
  View.ld w (Rect.unit (s := S1024x2048) (k0_off5 t3 t4) S32x128.size (k0_off5_inb t3 t4))

/-- The sixteen rows of block scales for the upper (`r = 0`) or lower (`r = 1`) rows of the trip. -/
def aLoad (a : Vec F S512x128 .bf16) (t4 : Fin k0_t4_loop.trips) (r : Fin 2) : Vec F S16x128 .bf16 :=
  View.ld a (Rect.unit (s := S512x128) (k0_off6 t4 (BitVec.ofNat 32 (16 * r.val))) S16x128.size (k0_off6_inb t4 r))

/-- The even outputs' weights of rows `16 r …` of trip `(t3, t4)`. -/
def loTile (v26 : IVec S16x128 32) (v30 v32 : IVec S32x128 8) (v43 : BitVec 32) (w : Vec F S1024x2048 .i8)
    (a : Vec F S512x128 .bf16) (t3 : Fin k0_t3_loop.trips) (t4 : Fin k0_t4_loop.trips) (r : Fin 2) : FVec F S16x128 .bf16 :=
  if r = 0 then
    k0_pay24 (k0_pay19 v30 v32 (k0_pay15 (F := F) (wLoad w t3 t4)) (k0_pay16 (F := F) (wLoad w t3 t4)))
      (k0_pay22 v26 (rowTile t4) (colGroup v43 t4) (aLoad a t4 0))
  else k0_pay32 v26 (rowTile t4) (colGroup v43 t4) (k0_pay29 v30 v32 (k0_pay14 (F := F) (wLoad w t3 t4))) (aLoad a t4 1)

/-- The odd outputs' weights of rows `16 r …` of trip `(t3, t4)`. -/
def hiTile (v26 : IVec S16x128 32) (v30 v32 : IVec S32x128 8) (v37 : IVec S32x128 1) (v43 : BitVec 32)
    (w : Vec F S1024x2048 .i8)
    (a : Vec F S512x128 .bf16) (t3 : Fin k0_t3_loop.trips) (t4 : Fin k0_t4_loop.trips) (r : Fin 2) : FVec F S16x128 .bf16 :=
  if r = 0 then
    k0_pay25 (k0_pay20 v30 v32 v37 (k0_pay15 (F := F) (wLoad w t3 t4)) (k0_pay16 (F := F) (wLoad w t3 t4)))
      (k0_pay23 v26 (rowTile t4) (colGroup v43 t4) (aLoad a t4 0))
  else k0_pay33 v26 (rowTile t4) (colGroup v43 t4) (k0_pay30 v30 v32 v37 (k0_pay14 (F := F) (wLoad w t3 t4))) (aLoad a t4 1)

/-- A buffer of weights put together from the pieces of all sixty-four trips. -/
def wSpec (tile : Fin k0_t4_loop.trips → Fin 2 → FVec F S16x128 .bf16) : Vec F S1024x256 .bf16 := fun j =>
  tile ⟨32 * ((j 1).val / 128) + (j 0).val / 32, by
      have h0 : (j 0).val < 1024 := (j 0).isLt
      have h1 : (j 1).val < 256 := (j 1).isLt
      rw [trips4]; omega⟩
    ⟨(j 0).val % 32 / 16, by omega⟩
    (ValueIdx.ix2 ⟨(j 0).val % 16, by omega⟩ ⟨(j 1).val % 128, by omega⟩)

/-- The pieces of the first `n` trips are in place. -/
def WFilled (tile : Fin k0_t4_loop.trips → Fin 2 → FVec F S16x128 .bf16) (n : ℕ) (y : Vec F S1024x256 .bf16) : Prop :=
  ∀ j, 32 * ((j 1).val / 128) + (j 0).val / 32 < n → y j = wSpec tile j

theorem WFilled.zero (tile : Fin k0_t4_loop.trips → Fin 2 → FVec F S16x128 .bf16) (y : Vec F S1024x256 .bf16) :
    WFilled tile 0 y := fun _ h => absurd h (Nat.not_lt_zero _)

theorem WFilled.full {tile : Fin k0_t4_loop.trips → Fin 2 → FVec F S16x128 .bf16} {y : Vec F S1024x256 .bf16}
    (h : WFilled tile 64 y) : y = wSpec tile :=
  funext fun j => h j (by
    have h0 : (j 0).val < 1024 := (j 0).isLt
    have h1 : (j 1).val < 256 := (j 1).isLt
    omega)

/-- One trip's two pieces fill one more unit. -/
theorem WFilled.step {tile : Fin k0_t4_loop.trips → Fin 2 → FVec F S16x128 .bf16}
    (m : Memref sig .tc .vmem S1024x256 .bf16) {f : BufTy.Contents (Elt F) m.view.ty} (t4 : Fin k0_t4_loop.trips)
    (h : WFilled tile t4.val (m.view.read (Elt F) f)) :
    WFilled tile (t4.val + 1) (m.view.read (Elt F) (m.view.writes (Elt F) f
      [⟨Rect.unit (s := S1024x256) (k0_off7 t4 16#32) S16x128.size (k0_off7_inb t4 1), tile t4 1⟩,
       ⟨Rect.unit (s := S1024x256) (k0_off7 t4 0#32) S16x128.size (k0_off7_inb t4 0), tile t4 0⟩])) := by
  intro j hj
  have h4 : t4.val < 64 := lt_of_lt_of_eq t4.isLt trips4
  have h0 : (j 0).val < 1024 := (j 0).isLt
  have h1 : (j 1).val < 256 := (j 1).isLt
  have mem : ∀ (r : Fin 2), 32 * ((j 1).val / 128) + (j 0).val / 32 = t4.val → (j 0).val % 32 / 16 = r.val →
      ∀ a, (j a).val = (![32 * (t4.val % 32) + 16 * r.val, 128 * (t4.val / 32)] : Fin 2 → ℕ) a
        + ((ValueIdx.ix2 (⟨(j 0).val % 16, by omega⟩ : Fin 16) (⟨(j 1).val % 128, by omega⟩ : Fin 128)) a).val := by
    intro r hu hr a
    fin_cases a
    · show (j 0).val = 32 * (t4.val % 32) + 16 * r.val + (j 0).val % 16
      omega
    · show (j 1).val = 128 * (t4.val / 32) + (j 1).val % 128
      omega
  have val : ∀ (r : Fin 2), 32 * ((j 1).val / 128) + (j 0).val / 32 = t4.val → (j 0).val % 32 / 16 = r.val →
      tile t4 r (ValueIdx.ix2 ⟨(j 0).val % 16, by omega⟩ ⟨(j 1).val % 128, by omega⟩) = wSpec tile j := by
    intro r hu hr
    have e1 : t4 = ⟨32 * ((j 1).val / 128) + (j 0).val / 32, by rw [trips4]; omega⟩ := Fin.ext hu.symm
    have e2 : r = ⟨(j 0).val % 32 / 16, by omega⟩ := Fin.ext hr.symm
    unfold wSpec
    rw [← e1, ← e2]
  have inb1 : ∀ a, k0_off7 t4 16#32 a + S16x128.size a ≤ S1024x256.size a := k0_off7_inb t4 1
  have inb0 : ∀ a, k0_off7 t4 0#32 a + S16x128.size a ≤ S1024x256.size a := k0_off7_inb t4 0
  have e1 : k0_off7 t4 16#32 = ![32 * (t4.val % 32) + 16 * (1 : Fin 2).val, 128 * (t4.val / 32)] := off7_eq t4 1
  have e0 : k0_off7 t4 0#32 = ![32 * (t4.val % 32) + 16 * (0 : Fin 2).val, 128 * (t4.val / 32)] := off7_eq t4 0
  by_cases hu : 32 * ((j 1).val / 128) + (j 0).val / 32 = t4.val
  · by_cases hr : (j 0).val % 32 / 16 = 1
    · rw [View.read_writes_cons_unit_of_mem m.view f inb1 _ _ j
        (ValueIdx.ix2 (⟨(j 0).val % 16, by omega⟩ : Fin 16) (⟨(j 1).val % 128, by omega⟩ : Fin 128)) e1 (mem 1 hu hr)]
      exact val 1 hu hr
    · have hr0 : (j 0).val % 32 / 16 = 0 := by omega
      rw [View.read_writes_cons_unit_of_not_mem m.view f inb1 _ _ j e1 0 (by
          show (j 0).val < 32 * (t4.val % 32) + 16 * 1 ∨ 32 * (t4.val % 32) + 16 * 1 + 16 ≤ (j 0).val
          omega),
        View.read_writes_cons_unit_of_mem m.view f inb0 _ _ j
        (ValueIdx.ix2 (⟨(j 0).val % 16, by omega⟩ : Fin 16) (⟨(j 1).val % 128, by omega⟩ : Fin 128)) e0 (mem 0 hu hr0)]
      exact val 0 hu hr0
  · have miss : ∀ (r : Fin 2), ∃ a : Fin 2, (j a).val < (![32 * (t4.val % 32) + 16 * r.val, 128 * (t4.val / 32)] : Fin 2 → ℕ) a
        ∨ (![32 * (t4.val % 32) + 16 * r.val, 128 * (t4.val / 32)] : Fin 2 → ℕ) a + S16x128.size a ≤ (j a).val := by
      intro r
      by_cases hc : (j 1).val / 128 = t4.val / 32
      · exact ⟨0, by
          show (j 0).val < 32 * (t4.val % 32) + 16 * r.val ∨ 32 * (t4.val % 32) + 16 * r.val + 16 ≤ (j 0).val
          omega⟩
      · exact ⟨1, by
          show (j 1).val < 128 * (t4.val / 32) ∨ 128 * (t4.val / 32) + 128 ≤ (j 1).val
          omega⟩
    obtain ⟨a1, m1⟩ := miss 1
    obtain ⟨a0, m0⟩ := miss 0
    rw [View.read_writes_cons_unit_of_not_mem m.view f inb1 _ _ j e1 a1 m1,
      View.read_writes_cons_unit_of_not_mem m.view f inb0 _ _ j e0 a0 m0]
    exact h j (by omega)

set_option warn.classDefReducibility false in
/-- Before trip `t4` the pieces of the earlier trips are in place in both weight buffers. -/
@[sl_loop] def loopInv_t4 (𝒱 : Variants) (c : Dev nD) (bd : Option 𝒱.V) (E : Set ℕ) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole)
    (arg0 : BitVec 32) (v26 : IVec S16x128 32) (v30 : IVec S32x128 8) (v32 : IVec S32x128 8) (v37 : IVec S32x128 1)
    (c0 c1 : BitVec 32) (t3 : Fin k0_t3_loop.trips) (v43 : BitVec 32)
    (w : Vec F S1024x2048 .i8) (a : Vec F S512x128 .bf16) :
    LoopInv (M := MT nD τ sig Unit (Elt F) ℕ (UR sig nD τ) ℕ) Idealize.ShloMosaic.frame (wpE defs₀ 𝒱 (c : Thread nD τ) bd) E
      k0_t4_loop.lb k0_t4_loop.ub k0_t4_loop.st k0_t4_ok () (k0_t4_body (F := F) i arg1 harg1 arg2 harg2 arg3 harg3 arg4 harg4 arg5 harg5 arg6 harg6 arg7 harg7 arg8 harg8 arg9 harg9 arg10 harg10 arg11 harg11 arg0 v26 v30 v32 v37 c0 c1 t3 v43) where
  inv k _ := iprop((arg3.view.loc (c : Thread nD τ) ↦[arg3.view.set]{fullShare} harg3.unread w)
    ∗ (∃ f9, (arg9.view.loc (c : Thread nD τ) ↦[arg9.view.set]{fullShare} f9) ∗ ⌜arg9.view.read (Elt F) f9 = a⌝)
    ∗ (∃ f10, (arg10.view.loc (c : Thread nD τ) ↦[arg10.view.set]{fullShare} f10)
        ∗ ⌜WFilled (loTile v26 v30 v32 v43 w a t3) k (arg10.view.read (Elt F) f10)⌝)
    ∗ (∃ f11, (arg11.view.loc (c : Thread nD τ) ↦[arg11.view.set]{fullShare} f11)
        ∗ ⌜WFilled (hiTile v26 v30 v32 v37 v43 w a t3) k (arg11.view.read (Elt F) f11)⌝))
  step k acc := by
    have hk : k.val < 64 := lt_of_lt_of_eq k.isLt trips4
    unfold k0_t4_body
    iintro ⟨H3, ⟨%f9, H9, %h9⟩, ⟨%f10, H10, %h10⟩, ⟨%f11, H11, %h11⟩⟩
    sl_exec
    sl_step
    isplitl [H3]; · iexact H3
    isplitl [H9]
    · iexists _
      isplitl [H9]; · iexact H9
      ipureintro
      assumption
    isplitl [H10]
    · iexists _
      isplitl [H10]; · iexact H10
      ipureintro
      sl_unfold_words
      simp only [View.readAt_eq_ld, harg3.read_unread, h9]
      exact WFilled.step arg10 k h10
    · iexists _
      isplitl [H11]; · iexact H11
      ipureintro
      sl_unfold_words
      simp only [View.readAt_eq_ld, harg3.read_unread, h9]
      exact WFilled.step arg11 k h11

end Cert.Kernel.Hand
-- ==== Proof.Bits.LoopsC.lean ====
/- The loop over pairs of weight tiles: expand, multiply, accumulate. -/
module

public import proofs.«01_k».proof.Proof.Bits.LoopsB
public import Idealize.ShloMosaic.Lib.Pipeline.Value

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The four conditions on the grid step: either it is the first, or it is not. -/
theorem conds : ∀ i : grid0.Coords,
    (k0_cond1 i = 1#1 ∧ ¬ k0_cond2 i = 1#1 ∧ k0_cond3 i = 1#1 ∧ ¬ k0_cond4 i = 1#1)
    ∨ (¬ k0_cond1 i = 1#1 ∧ k0_cond2 i = 1#1 ∧ ¬ k0_cond3 i = 1#1 ∧ k0_cond4 i = 1#1) := by decide +kernel

/-- The accumulator's block for the even outputs of pair `n` after the step. -/
def accLo (i : grid0.Coords) (dy : Vec F S128x1024 .bf16) (wlo : Vec F S1024x256 .bf16) (prev : Vec F S128x4096 .f32)
    (n : Fin k0_t3_loop.trips) : FVec F S128x256 .f32 :=
  if k0_cond1 i = 1#1 then k0_pay35 dy wlo
  else k0_pay36 dy wlo (fun x => prev (ValueIdx.ix2 (x 0) ⟨256 * n.val + (x 1).val, by
    have h := lt_of_lt_of_eq n.isLt trips3
    have h1 : (x 1).val < 256 := (x 1).isLt
    omega⟩))

/-- The accumulator's block for the odd outputs of pair `n` after the step. -/
def accHi (i : grid0.Coords) (dy : Vec F S128x1024 .bf16) (whi : Vec F S1024x256 .bf16) (prev : Vec F S128x4096 .f32)
    (n : Fin k0_t3_loop.trips) : FVec F S128x256 .f32 :=
  if k0_cond1 i = 1#1 then k0_pay38 dy whi
  else k0_pay1 (k0_pay37 dy whi) (fun x => prev (ValueIdx.ix2 (x 0) ⟨256 * n.val + 2048 + (x 1).val, by
    have h := lt_of_lt_of_eq n.isLt trips3
    have h1 : (x 1).val < 256 := (x 1).isLt
    omega⟩))

/-- The accumulator after the step: columns below 2048 hold the even outputs, the others the odd ones, 256 columns to a
    pair of weight tiles. -/
def accSpec (i : grid0.Coords) (dy : Vec F S128x1024 .bf16) (wlo whi : Fin k0_t3_loop.trips → Vec F S1024x256 .bf16)
    (prev : Vec F S128x4096 .f32) : Vec F S128x4096 .f32 := fun j =>
  let n : Fin k0_t3_loop.trips := ⟨(j 1).val % 2048 / 256, by rw [trips3]; omega⟩
  let x : S128x256.Idx := ValueIdx.ix2 (j 0) ⟨(j 1).val % 256, by omega⟩
  if (j 1).val < 2048 then accLo i dy (wlo n) prev n x else accHi i dy (whi n) prev n x

/-- The accumulator after the first `n` pairs of the step. -/
def AccFilled (spec prev : Vec F S128x4096 .f32) (n : ℕ) (y : Vec F S128x4096 .f32) : Prop :=
  ∀ j, y j = if (j 1).val % 2048 / 256 < n then spec j else prev j

theorem AccFilled.zero (spec prev : Vec F S128x4096 .f32) : AccFilled spec prev 0 prev := fun j => by
  rw [if_neg (Nat.not_lt_zero _)]

/-- The accumulator after the first `n` pairs, as a value; before the first pair it is what the step found. -/
def accPart (spec prev : Vec F S128x4096 .f32) : ℕ → Vec F S128x4096 .f32
  | 0 => prev
  | n + 1 => fun j => if (j 1).val % 2048 / 256 < n + 1 then spec j else prev j

theorem AccFilled.iff {spec prev y : Vec F S128x4096 .f32} {n : ℕ} : AccFilled spec prev n y ↔ y = accPart spec prev n := by
  cases n with
  | zero =>
    refine ⟨fun h => funext fun j => (h j).trans (if_neg (Nat.not_lt_zero _)), fun h => ?_⟩
    rw [h]
    exact AccFilled.zero spec prev
  | succ n => exact ⟨fun h => funext fun j => h j, fun h j => congrFun h j⟩

theorem AccFilled.full {spec prev y : Vec F S128x4096 .f32} (h : AccFilled spec prev 8 y) : y = spec :=
  funext fun j => (h j).trans (if_pos (by omega))

/-- Writing the two blocks of pair `t3` fills one more pair. -/
theorem AccFilled.step {i : grid0.Coords} {dy : Vec F S128x1024 .bf16}
    {wlo whi : Fin k0_t3_loop.trips → Vec F S1024x256 .bf16} {prev : Vec F S128x4096 .f32}
    (m : Memref sig .tc .vmem S128x4096 .f32) {f : BufTy.Contents (Elt F) m.view.ty} (t3 : Fin k0_t3_loop.trips)
    {offL offH : Fin 2 → ℕ} (inbL : ∀ a, offL a + S128x256.size a ≤ S128x4096.size a)
    (inbH : ∀ a, offH a + S128x256.size a ≤ S128x4096.size a)
    (eL : offL = ![0, 256 * t3.val]) (eH : offH = ![0, 256 * t3.val + 2048])
    (h : AccFilled (accSpec i dy wlo whi prev) prev t3.val (m.view.read (Elt F) f)) :
    AccFilled (accSpec i dy wlo whi prev) prev (t3.val + 1) (m.view.read (Elt F) (m.view.writes (Elt F) f
      [⟨Rect.unit (s := S128x4096) offH S128x256.size inbH, accHi i dy (whi t3) prev t3⟩,
       ⟨Rect.unit (s := S128x4096) offL S128x256.size inbL, accLo i dy (wlo t3) prev t3⟩])) := by
  intro j
  have h3 : t3.val < 8 := lt_of_lt_of_eq t3.isLt trips3
  have h1 : (j 1).val < 4096 := (j 1).isLt
  by_cases hu : (j 1).val % 2048 / 256 = t3.val
  · have e1 : t3 = ⟨(j 1).val % 2048 / 256, by rw [trips3]; omega⟩ := Fin.ext hu.symm
    rw [if_pos (by omega)]
    by_cases hl : (j 1).val < 2048
    · rw [View.read_writes_cons_unit_of_not_mem m.view f inbH _ _ j eH 1 (by
          show (j 1).val < 256 * t3.val + 2048 ∨ 256 * t3.val + 2048 + 256 ≤ (j 1).val
          omega),
        View.read_writes_cons_unit_of_mem m.view f inbL _ _ j
          (ValueIdx.ix2 (j 0) (⟨(j 1).val % 256, by omega⟩ : Fin 256)) eL (by
          intro a
          fin_cases a
          · show (j 0).val = 0 + (j 0).val
            omega
          · show (j 1).val = 256 * t3.val + (j 1).val % 256
            omega)]
      unfold accSpec
      rw [if_pos hl, ← e1]
    · rw [View.read_writes_cons_unit_of_mem m.view f inbH _ _ j
          (ValueIdx.ix2 (j 0) (⟨(j 1).val % 256, by omega⟩ : Fin 256)) eH (by
          intro a
          fin_cases a
          · show (j 0).val = 0 + (j 0).val
            omega
          · show (j 1).val = 256 * t3.val + 2048 + (j 1).val % 256
            omega)]
      unfold accSpec
      rw [if_neg hl, ← e1]
  · rw [View.read_writes_cons_unit_of_not_mem m.view f inbH _ _ j eH 1 (by
          show (j 1).val < 256 * t3.val + 2048 ∨ 256 * t3.val + 2048 + 256 ≤ (j 1).val
          omega),
      View.read_writes_cons_unit_of_not_mem m.view f inbL _ _ j eL 1 (by
          show (j 1).val < 256 * t3.val ∨ 256 * t3.val + 256 ≤ (j 1).val
          omega)]
    refine (h j).trans ?_
    by_cases hn : (j 1).val % 2048 / 256 < t3.val
    · rw [if_pos hn, if_pos (by omega)]
    · rw [if_neg hn, if_neg (by omega)]

/-- A block of pair `t3` read before the pair is filled holds what the step found. -/
theorem AccFilled.ld_lo {spec prev y : Vec F S128x4096 .f32} (t3 : Fin k0_t3_loop.trips) {off : Fin 2 → ℕ}
    (inb : ∀ a, off a + S128x256.size a ≤ S128x4096.size a) (e : off = ![0, 256 * t3.val])
    (h : AccFilled spec prev t3.val y) :
    View.ld y (Rect.unit (s := S128x4096) off S128x256.size inb)
      = fun x => prev (ValueIdx.ix2 (x 0) ⟨256 * t3.val + (x 1).val, by
          have h := lt_of_lt_of_eq t3.isLt trips3
          have h1 : (x 1).val < 256 := (x 1).isLt
          omega⟩) := by
  subst e
  have h3 : t3.val < 8 := lt_of_lt_of_eq t3.isLt trips3
  funext x
  have h1 : (x 1).val < 256 := (x 1).isLt
  have hx : (Rect.unit (s := S128x4096) ![0, 256 * t3.val] S128x256.size inb).idx x
      = ValueIdx.ix2 (x 0) ⟨256 * t3.val + (x 1).val, by omega⟩ := by
    funext a
    refine Fin.ext ?_
    fin_cases a
    · show 0 + 1 * (x 0).val = (x 0).val
      omega
    · show 256 * t3.val + 1 * (x 1).val = 256 * t3.val + (x 1).val
      omega
  refine ((congrArg y hx).trans (h _)).trans (if_neg ?_)
  show ¬ (256 * t3.val + (x 1).val) % 2048 / 256 < t3.val
  omega

/-- The same for the odd outputs' block. -/
theorem AccFilled.ld_hi {spec prev y : Vec F S128x4096 .f32} (t3 : Fin k0_t3_loop.trips) {off : Fin 2 → ℕ}
    (inb : ∀ a, off a + S128x256.size a ≤ S128x4096.size a) (e : off = ![0, 256 * t3.val + 2048])
    (h : AccFilled spec prev t3.val y) :
    View.ld y (Rect.unit (s := S128x4096) off S128x256.size inb)
      = fun x => prev (ValueIdx.ix2 (x 0) ⟨256 * t3.val + 2048 + (x 1).val, by
          have h := lt_of_lt_of_eq t3.isLt trips3
          have h1 : (x 1).val < 256 := (x 1).isLt
          omega⟩) := by
  subst e
  have h3 : t3.val < 8 := lt_of_lt_of_eq t3.isLt trips3
  funext x
  have h1 : (x 1).val < 256 := (x 1).isLt
  have hx : (Rect.unit (s := S128x4096) ![0, 256 * t3.val + 2048] S128x256.size inb).idx x
      = ValueIdx.ix2 (x 0) ⟨256 * t3.val + 2048 + (x 1).val, by omega⟩ := by
    funext a
    refine Fin.ext ?_
    fin_cases a
    · show 0 + 1 * (x 0).val = (x 0).val
      omega
    · show 256 * t3.val + 2048 + 1 * (x 1).val = 256 * t3.val + 2048 + (x 1).val
      omega
  refine ((congrArg y hx).trans (h _)).trans (if_neg ?_)
  show ¬ (256 * t3.val + 2048 + (x 1).val) % 2048 / 256 < t3.val
  omega

/-- The same step, for blocks given by equations. -/
theorem AccFilled.step' {i : grid0.Coords} {dy : Vec F S128x1024 .bf16}
    {wlo whi : Fin k0_t3_loop.trips → Vec F S1024x256 .bf16} {prev : Vec F S128x4096 .f32}
    (m : Memref sig .tc .vmem S128x4096 .f32) {f : BufTy.Contents (Elt F) m.view.ty} (t3 : Fin k0_t3_loop.trips)
    {offL offH : Fin 2 → ℕ} (inbL : ∀ a, offL a + S128x256.size a ≤ S128x4096.size a)
    (inbH : ∀ a, offH a + S128x256.size a ≤ S128x4096.size a)
    (eL : offL = ![0, 256 * t3.val]) (eH : offH = ![0, 256 * t3.val + 2048]) {vL vH : FVec F S128x256 .f32}
    (hL : vL = accLo i dy (wlo t3) prev t3) (hH : vH = accHi i dy (whi t3) prev t3)
    (h : AccFilled (accSpec i dy wlo whi prev) prev t3.val (m.view.read (Elt F) f)) :
    AccFilled (accSpec i dy wlo whi prev) prev (t3.val + 1) (m.view.read (Elt F) (m.view.writes (Elt F) f
      [⟨Rect.unit (s := S128x4096) offH S128x256.size inbH, vH⟩,
       ⟨Rect.unit (s := S128x4096) offL S128x256.size inbL, vL⟩])) := by
  subst hL hH
  exact AccFilled.step m t3 inbL inbH eL eH h

set_option warn.classDefReducibility false in
/-- Before trip `t3` the blocks of the earlier pairs are accumulated and the others are as the step found them. -/
@[sl_loop] def loopInv_t3 (𝒱 : Variants) (c : Dev nD) (bd : Option 𝒱.V) (E : Set ℕ) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole)
    (arg0 : BitVec 32) (v26 : IVec S16x128 32) (v30 : IVec S32x128 8) (v32 : IVec S32x128 8) (v37 : IVec S32x128 1)
    (dy : Vec F S128x1024 .bf16) (w : Vec F S1024x2048 .i8) (a : Vec F S512x128 .bf16) (prev : Vec F S128x4096 .f32) :
    LoopInv (M := MT nD τ sig Unit (Elt F) ℕ (UR sig nD τ) ℕ) Idealize.ShloMosaic.frame (wpE defs₀ 𝒱 (c : Thread nD τ) bd) E
      k0_t3_loop.lb k0_t3_loop.ub k0_t3_loop.st k0_t3_ok () (k0_t3_body (F := F) i arg1 harg1 arg2 harg2 arg3 harg3 arg4 harg4 arg5 harg5 arg6 harg6 arg7 harg7 arg8 harg8 arg9 harg9 arg10 harg10 arg11 harg11 arg0 v26 v30 v32 v37) where
  inv k _ := iprop((arg2.view.loc (c : Thread nD τ) ↦[arg2.view.set]{fullShare} harg2.unread dy)
    ∗ (arg3.view.loc (c : Thread nD τ) ↦[arg3.view.set]{fullShare} harg3.unread w)
    ∗ (∃ f9, (arg9.view.loc (c : Thread nD τ) ↦[arg9.view.set]{fullShare} f9) ∗ ⌜arg9.view.read (Elt F) f9 = a⌝)
    ∗ (∃ f8, (arg8.view.loc (c : Thread nD τ) ↦[arg8.view.set]{fullShare} f8)
        ∗ ⌜arg8.view.read (Elt F) f8 = accPart (accSpec i dy (fun n => wSpec (loTile v26 v30 v32 (tripWord n.val) w a n))
            (fun n => wSpec (hiTile v26 v30 v32 v37 (tripWord n.val) w a n)) prev) prev k⌝)
    ∗ (∃ f10, (arg10.view.loc (c : Thread nD τ) ↦[arg10.view.set]{fullShare} f10))
    ∗ (∃ f11, (arg11.view.loc (c : Thread nD τ) ↦[arg11.view.set]{fullShare} f11)))
  step k acc := by
    have hk : k.val < 8 := lt_of_lt_of_eq k.isLt trips3
    have zz : (![0, 0] : Fin 2 → ℕ) = fun _ => 0 := by funext a; fin_cases a <;> rfl
    rcases conds i with ⟨hc1, hc2, hc3, hc4⟩ | ⟨hc1, hc2, hc3, hc4⟩
    · unfold k0_t3_body
      iintro ⟨H2, H3, ⟨%f9, H9, %h9⟩, ⟨%f8, H8, %h8⟩, ⟨%f10, H10⟩, ⟨%f11, H11⟩⟩
      replace h8 := AccFilled.iff.mpr h8
      have z10 := WFilled.zero (loTile v26 v30 v32 (tripWord k.val) w (arg9.view.read (Elt F) f9) k) (arg10.view.read (Elt F) f10)
      have z11 := WFilled.zero (hiTile v26 v30 v32 v37 (tripWord k.val) w (arg9.view.read (Elt F) f9) k) (arg11.view.read (Elt F) f11)
      sl_exec (disch := first | sl_exact hc1 | sl_exact hc2 | sl_exact hc3 | sl_exact hc4)
      sl_step
      isplitl [H2]; · iexact H2
      isplitl [H3]; · iexact H3
      isplitl [H9]
      · iexists _
        isplitl [H9]; · iexact H9
        ipureintro
        exact hL2.trans h9
      isplitl [H8]
      · iexists _
        isplitl [H8]; · iexact H8
        ipureintro
        subst h9
        have e10' : arg10.view.read (Elt F) f10L1 = wSpec (loTile v26 v30 v32 (tripWord k.val) w (arg9.view.read (Elt F) f9) k) :=
          WFilled.full hL4
        have e11' : arg11.view.read (Elt F) f11L2 = wSpec (hiTile v26 v30 v32 v37 (tripWord k.val) w (arg9.view.read (Elt F) f9) k) :=
          WFilled.full hL6
        refine AccFilled.iff.mp ?_
        refine AccFilled.step' arg8 k _ _ (k0_off8_eq k) (k0_off10_eq k) ?_ ?_ h8
        · refine Eq.trans ?_ (if_pos hc1).symm
          show k0_pay35 (View.ld (arg2.view.read (Elt F) (harg2.unread dy)) (Rect.unit ![0, 0] S128x1024.size inb_S128x1024_S128x1024_0_0))
            (View.ld (arg10.view.read (Elt F) f10L1) (Rect.unit ![0, 0] S1024x256.size inb_S1024x256_S1024x256_0_0)) = _
          rw [harg2.read_unread, e10', View.ld_unit_zero (S := S128x1024) zz, View.ld_unit_zero (S := S1024x256) zz]
        · refine Eq.trans ?_ (if_pos hc1).symm
          show k0_pay38 (View.ld (arg2.view.read (Elt F) (harg2.unread dy)) (Rect.unit ![0, 0] S128x1024.size inb_S128x1024_S128x1024_0_0))
            (View.ld (arg11.view.read (Elt F) f11L2) (Rect.unit ![0, 0] S1024x256.size inb_S1024x256_S1024x256_0_0)) = _
          rw [harg2.read_unread, e11', View.ld_unit_zero (S := S128x1024) zz, View.ld_unit_zero (S := S1024x256) zz]
      isplitl [H10]
      · iexists _
        iexact H10
      · iexists _
        iexact H11
    · unfold k0_t3_body
      iintro ⟨H2, H3, ⟨%f9, H9, %h9⟩, ⟨%f8, H8, %h8⟩, ⟨%f10, H10⟩, ⟨%f11, H11⟩⟩
      replace h8 := AccFilled.iff.mpr h8
      have z10 := WFilled.zero (loTile v26 v30 v32 (tripWord k.val) w (arg9.view.read (Elt F) f9) k) (arg10.view.read (Elt F) f10)
      have z11 := WFilled.zero (hiTile v26 v30 v32 v37 (tripWord k.val) w (arg9.view.read (Elt F) f9) k) (arg11.view.read (Elt F) f11)
      sl_exec (disch := first | sl_exact hc1 | sl_exact hc2 | sl_exact hc3 | sl_exact hc4)
      sl_step
      isplitl [H2]; · iexact H2
      isplitl [H3]; · iexact H3
      isplitl [H9]
      · iexists _
        isplitl [H9]; · iexact H9
        ipureintro
        exact hL2.trans h9
      isplitl [H8]
      · iexists _
        isplitl [H8]; · iexact H8
        ipureintro
        subst h9
        have e10' : arg10.view.read (Elt F) f10L1 = wSpec (loTile v26 v30 v32 (tripWord k.val) w (arg9.view.read (Elt F) f9) k) :=
          WFilled.full hL4
        have e11' : arg11.view.read (Elt F) f11L2 = wSpec (hiTile v26 v30 v32 v37 (tripWord k.val) w (arg9.view.read (Elt F) f9) k) :=
          WFilled.full hL6
        refine AccFilled.iff.mp ?_
        refine AccFilled.step' arg8 k _ _ (k0_off9_eq k) (k0_off11_eq k) ?_ ?_ h8
        · refine Eq.trans ?_ (if_neg hc1).symm
          show k0_pay36 (View.ld (arg2.view.read (Elt F) (harg2.unread dy)) (Rect.unit ![0, 0] S128x1024.size inb_S128x1024_S128x1024_0_0))
            (View.ld (arg10.view.read (Elt F) f10L1) (Rect.unit ![0, 0] S1024x256.size inb_S1024x256_S1024x256_0_0))
            (View.ld (arg8.view.read (Elt F) f8) (Rect.unit (k0_off9 k) S128x256.size (k0_off9_inb i k hc2))) = _
          rw [harg2.read_unread, e10', View.ld_unit_zero (S := S128x1024) zz, View.ld_unit_zero (S := S1024x256) zz,
            AccFilled.ld_lo k _ (k0_off9_eq k) h8]
          rfl
        · refine Eq.trans ?_ (if_neg hc1).symm
          show k0_pay1 (k0_pay37 (View.ld (arg2.view.read (Elt F) (harg2.unread dy)) (Rect.unit ![0, 0] S128x1024.size inb_S128x1024_S128x1024_0_0))
            (View.ld (arg11.view.read (Elt F) f11L2) (Rect.unit ![0, 0] S1024x256.size inb_S1024x256_S1024x256_0_0)))
            (View.ld (arg8.view.read (Elt F) f8) (Rect.unit (k0_off11 k) S128x256.size (k0_off11_inb i k hc4))) = _
          rw [harg2.read_unread, e11', View.ld_unit_zero (S := S128x1024) zz, View.ld_unit_zero (S := S1024x256) zz,
            AccFilled.ld_hi k _ (k0_off11_eq k) h8]
          rfl
      isplitl [H10]
      · iexists _
        iexact H10
      · iexists _
        iexact H11

end Cert.Kernel.Hand
-- ==== Proof.Bits.Body.lean ====
/- One grid step: what the body leaves in the accumulator, and at the last step in the output block. -/
module

public import proofs.«01_k».proof.Proof.Bits.LoopsC
public import Idealize.ShloMosaic.Lib.Pipeline.Value
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block scales of the step. -/
def stepA (i : grid0.Coords) (x0 : Vec F S1 .f32) (x3 : Vec F S1024x64 .i8) (x4 : Vec F S28x128 .f32) : Vec F S512x128 .bf16 :=
  aSpec i (iota .tc S8x128 32 [0] iota_S8x128_d0_w32) (View.ld x0 (Rect.unit (s := S1) ![0] S1.size inb_S1_S1_0) (Shape.Idx.first (numel1_S1 ▸ Nat.one_pos))) x3 x4

/-- The low bytes of the table. -/
def tabLo (x5 : Vec F S2x32x128 .i8) : IVec S32x128 8 :=
  k0_pay42 (F := F) (View.ld x5 (Rect.unit (s := S2x32x128) ![0, 0, 0] S1x32x128.size inb_S2x32x128_S1x32x128_0_0_0))

/-- The high bytes of the table. -/
def tabHi (x5 : Vec F S2x32x128 .i8) : IVec S32x128 8 :=
  k0_pay43 (F := F) (View.ld x5 (Rect.unit (s := S2x32x128) ![1, 0, 0] S1x32x128.size inb_S2x32x128_S1x32x128_1_0_0))

/-- The even outputs' weights of pair `n`. -/
def stepLo (x2 : Vec F S1024x2048 .i8) (x5 : Vec F S2x32x128 .i8) (a : Vec F S512x128 .bf16) (n : Fin k0_t3_loop.trips) :
    Vec F S1024x256 .bf16 :=
  wSpec (loTile k0_pay40 (tabLo x5) (tabHi x5) (tripWord n.val) x2 a n)

/-- The odd outputs' weights of pair `n`. -/
def stepHi (x2 : Vec F S1024x2048 .i8) (x5 : Vec F S2x32x128 .i8) (a : Vec F S512x128 .bf16) (n : Fin k0_t3_loop.trips) :
    Vec F S1024x256 .bf16 :=
  wSpec (hiTile k0_pay40 (tabLo x5) (tabHi x5) k0_pay44 (tripWord n.val) x2 a n)

/-- The accumulator after the step, from the step's blocks and the accumulator before it. -/
def stepAcc (i : grid0.Coords) (x0 : Vec F S1 .f32) (x1 : Vec F S128x1024 .bf16) (x2 : Vec F S1024x2048 .i8)
    (x3 : Vec F S1024x64 .i8) (x4 : Vec F S28x128 .f32) (x5 : Vec F S2x32x128 .i8) (prev : Vec F S128x4096 .f32) :
    Vec F S128x4096 .f32 :=
  accSpec i x1 (stepLo x2 x5 (stepA i x0 x3 x4)) (stepHi x2 x5 (stepA i x0 x3 x4)) prev

theorem zero2 : (![0, 0] : Fin 2 → ℕ) = fun _ => 0 := by decide

/-- A store of the whole output block leaves what it stored. -/
theorem out_read (v : View sig .tc .vmem S128x4096 .bf16) (f : v.ty.Contents (Elt F)) (w : Vec F S128x4096 .bf16) :
    v.read (Elt F) (v.writes (Elt F) f
      [⟨Rect.unit (s := S128x4096) ![0, 0] S128x4096.size inb_S128x4096_S128x4096_0_0, w⟩]) = w :=
  View.read_writes_full v f inb_S128x4096_S128x4096_0_0 w []

set_option maxHeartbeats 400000 in
/-- The body at a step that is not the last: the accumulator advances, everything else it was lent comes back. -/
theorem body_mid (c : Dev nD) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole) (hc : ¬ k0_cond5 i = 1#1)
    (x0 : Vec F S1 .f32) (x1 : Vec F S128x1024 .bf16) (x2 : Vec F S1024x2048 .i8) (x3 : Vec F S1024x64 .i8)
    (x4 : Vec F S28x128 .f32) (x5 : Vec F S2x32x128 .i8) (x6 : Vec F S128x4096 .bf16) (prev : Vec F S128x4096 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare prev
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (stepAcc i x0 x1 x2 x3 x4 x5 prev)
            ∗ (∃ d, owns (c : Thread nD τ) arg9 fullShare d) ∗ (∃ d, owns (c : Thread nD τ) arg10 fullShare d)
            ∗ (∃ d, owns (c : Thread nD τ) arg11 fullShare d)) -∗ K PUnit.unit))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11) K := by
  simp only [cc0_nf4_dx_eq_skeleton]; unfold cc0_nf4_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have z9 : AFilled (F := F) (aSpec (F := F) i (iota .tc S8x128 32 [0] iota_S8x128_d0_w32) (arg1.view.readAt (Elt F) (Rect.unit (s := S1) ![0] S1.size inb_S1_S1_0).toLoadRect (harg1.unread x0) (Shape.Idx.first (numel1_S1 ▸ Nat.one_pos))) x3 x4) 0 (arg9.view.read (Elt F) f9) := AFilled.zero _ _
  subst hf8
  sl_exec (disch := first | sl_exact hc)
  sl_step
  have ea : arg9.view.read (Elt F) f9L0 = stepA i x0 x3 x4 := by
    refine (AFilled.full hL3).trans ?_
    show aSpec i _ (arg1.view.readAt (Elt F) (Rect.unit (s := S1) ![0] S1.size inb_S1_S1_0).toLoadRect (harg1.unread x0) (Shape.Idx.first (numel1_S1 ▸ Nat.one_pos))) x3 x4 = _
    rw [View.readAt_eq_ld, harg1.read_unread]
    rfl
  have e8 : arg8.view.read (Elt F) f8L2 = stepAcc i x0 x1 x2 x3 x4 x5 (arg8.view.read (Elt F) f8) := by
    refine (AccFilled.iff.mpr hL9).full.trans ?_
    rw [ea]
    show accSpec i x1 (stepLo x2 (arg6.view.read (Elt F) (harg6.unread x5)) (stepA i x0 x3 x4))
      (stepHi x2 (arg6.view.read (Elt F) (harg6.unread x5)) (stepA i x0 x3 x4)) (arg8.view.read (Elt F) f8) = _
    rw [harg6.read_unread]
    rfl
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H8]
  · iexists _; isplitr
    · ipureintro; exact e8
    · iexact H8
  isplitl [H9]
  · iexists (arg9.view.read (Elt F) f9L1), f9L1; isplitr
    · ipureintro; rfl
    · iexact H9
  isplitl [H10]
  · iexists (arg10.view.read (Elt F) f10L3), f10L3; isplitr
    · ipureintro; rfl
    · iexact H10
  iexists (arg11.view.read (Elt F) f11L4), f11L4; isplitr
  · ipureintro; rfl
  · iexact H11

set_option maxHeartbeats 400000 in
/-- The body at the last step: the accumulator advances, and the output block is the accumulator rounded. -/
theorem body_last (c : Dev nD) (i : grid0.Coords) (arg1 : Memref sig .tc .smem S1 .f32) (harg1 : arg1.IsWhole) (arg2 : Memref sig .tc .vmem S128x1024 .bf16) (harg2 : arg2.IsWhole) (arg3 : Memref sig .tc .vmem S1024x2048 .i8) (harg3 : arg3.IsWhole) (arg4 : Memref sig .tc .vmem S1024x64 .i8) (harg4 : arg4.IsWhole) (arg5 : Memref sig .tc .vmem S28x128 .f32) (harg5 : arg5.IsWhole) (arg6 : Memref sig .tc .vmem S2x32x128 .i8) (harg6 : arg6.IsWhole) (arg7 : Memref sig .tc .vmem S128x4096 .bf16) (harg7 : arg7.IsWhole) (arg8 : Memref sig .tc .vmem S128x4096 .f32) (harg8 : arg8.IsWhole) (arg9 : Memref sig .tc .vmem S512x128 .bf16) (harg9 : arg9.IsWhole) (arg10 : Memref sig .tc .vmem S1024x256 .bf16) (harg10 : arg10.IsWhole) (arg11 : Memref sig .tc .vmem S1024x256 .bf16) (harg11 : arg11.IsWhole) (hc : k0_cond5 i = 1#1)
    (x0 : Vec F S1 .f32) (x1 : Vec F S128x1024 .bf16) (x2 : Vec F S1024x2048 .i8) (x3 : Vec F S1024x64 .i8)
    (x4 : Vec F S28x128 .f32) (x5 : Vec F S2x32x128 .i8) (prev : Vec F S128x4096 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ owns (c : Thread nD τ) arg8 fullShare prev
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k0_pay2 (stepAcc i x0 x1 x2 x3 x4 x5 prev))
            ∗ owns (c : Thread nD τ) arg8 fullShare (stepAcc i x0 x1 x2 x3 x4 x5 prev)
            ∗ (∃ d, owns (c : Thread nD τ) arg9 fullShare d) ∗ (∃ d, owns (c : Thread nD τ) arg10 fullShare d)
            ∗ (∃ d, owns (c : Thread nD τ) arg11 fullShare d)) -∗ K PUnit.unit))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11) K := by
  simp only [cc0_nf4_dx_eq_skeleton]; unfold cc0_nf4_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f8, %hf8, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have z9 : AFilled (F := F) (aSpec (F := F) i (iota .tc S8x128 32 [0] iota_S8x128_d0_w32) (arg1.view.readAt (Elt F) (Rect.unit (s := S1) ![0] S1.size inb_S1_S1_0).toLoadRect (harg1.unread x0) (Shape.Idx.first (numel1_S1 ▸ Nat.one_pos))) x3 x4) 0 (arg9.view.read (Elt F) f9) := AFilled.zero _ _
  subst hf8
  sl_exec (disch := first | sl_exact hc)
  sl_step
  have ea : arg9.view.read (Elt F) f9L0 = stepA i x0 x3 x4 := by
    refine (AFilled.full hL3).trans ?_
    show aSpec i _ (arg1.view.readAt (Elt F) (Rect.unit (s := S1) ![0] S1.size inb_S1_S1_0).toLoadRect (harg1.unread x0) (Shape.Idx.first (numel1_S1 ▸ Nat.one_pos))) x3 x4 = _
    rw [View.readAt_eq_ld, harg1.read_unread]
    rfl
  have e8 : arg8.view.read (Elt F) f8L2 = stepAcc i x0 x1 x2 x3 x4 x5 (arg8.view.read (Elt F) f8) := by
    refine (AccFilled.iff.mpr hL9).full.trans ?_
    rw [ea]
    show accSpec i x1 (stepLo x2 (arg6.view.read (Elt F) (harg6.unread x5)) (stepA i x0 x3 x4))
      (stepHi x2 (arg6.view.read (Elt F) (harg6.unread x5)) (stepA i x0 x3 x4)) (arg8.view.read (Elt F) f8) = _
    rw [harg6.read_unread]
    rfl
  have e7 : ∀ f : BufTy.Contents (Elt F) arg7.view.ty, arg7.view.read (Elt F) (arg7.view.writes (Elt F) f
      [⟨Rect.unit (s := S128x4096) ![0, 0] S128x4096.size inb_S128x4096_S128x4096_0_0,
        k0_pay2 (arg8.view.readAt (Elt F) (Rect.unit (s := S128x4096) ![0, 0] S128x4096.size inb_S128x4096_S128x4096_0_0).toLoadRect f8L2)⟩])
      = k0_pay2 (stepAcc i x0 x1 x2 x3 x4 x5 (arg8.view.read (Elt F) f8)) := by
    intro f
    rw [View.readAt_eq_ld, e8, View.ld_unit_zero (S := S128x4096) zero2]
    exact out_read arg7.view f _
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact e7 f6
    · iexact H6
  isplitl [H8]
  · iexists _; isplitr
    · ipureintro; exact e8
    · iexact H8
  isplitl [H9]
  · iexists (arg9.view.read (Elt F) f9L1), f9L1; isplitr
    · ipureintro; rfl
    · iexact H9
  isplitl [H10]
  · iexists (arg10.view.read (Elt F) f10L3), f10L3; isplitr
    · ipureintro; rfl
    · iexact H10
  iexists (arg11.view.read (Elt F) f11L4), f11L4; isplitr
  · ipureintro; rfl
  · iexact H11

end Cert.Kernel.Hand
-- ==== Proof.Bits.Run.lean ====
/- The whole run: the accumulator point by point, the invariant that carries it, and the launch. -/
module

public import proofs.«01_k».proof.Proof.Bits.Body
public import proofs.«01_k».proof.Proof.Gen.Kernel.Frame
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val = 0 :=
  (by decide +kernel : ∀ t : Fin grid0.N, k0_cond1 (grid0.coords t) = 1#1 ↔ t.val = 0)

theorem cond5_iff : ∀ t : Fin cfg0.N, k0_cond5 (grid0.coords t) = 1#1 ↔ t.val = 13 :=
  (by decide +kernel : ∀ t : Fin grid0.N, k0_cond5 (grid0.coords t) = 1#1 ↔ t.val = 13)

theorem idle6 : ∀ t : Fin cfg0.N, ¬ k0_cond5 (grid0.coords t) = 1#1 → cfg0.idle 6 (grid0.coords t) = true := by decide +kernel

theorem live6 : ∀ t : Fin cfg0.N, k0_cond5 (grid0.coords t) = 1#1 → cfg0.idle 6 (grid0.coords t) = false := by decide +kernel

theorem noFlush6 : ∀ t : Fin cfg0.N, ¬ k0_cond5 (grid0.coords t) = 1#1 → (cfg0.win 6).flush t = false := by decide +kernel

/-- The accumulator after point `t`, from the accumulator before it. -/
def stepAt (c : Dev nD) (t : Fin cfg0.N) (prev : Vec F S128x4096 .f32) : Vec F S128x4096 .f32 :=
  stepAcc (grid0.coords t) (iblk m c 0 t) (iblk m c 1 t) (iblk m c 2 t) (iblk m c 3 t) (iblk m c 4 t) (iblk m c 5 t) prev

/-- At the first point the accumulator before it does not matter: every block is stored, none is added to. -/
theorem stepAcc_first (i : grid0.Coords) (h : k0_cond1 i = 1#1) (x0 : Vec F S1 .f32) (x1 : Vec F S128x1024 .bf16)
    (x2 : Vec F S1024x2048 .i8) (x3 : Vec F S1024x64 .i8) (x4 : Vec F S28x128 .f32) (x5 : Vec F S2x32x128 .i8)
    (p p' : Vec F S128x4096 .f32) : stepAcc i x0 x1 x2 x3 x4 x5 p = stepAcc i x0 x1 x2 x3 x4 x5 p' := by
  unfold stepAcc accSpec accLo accHi
  simp only [if_pos h]

/-- The accumulator after point `n`. -/
def accAt (c : Dev nD) : (n : ℕ) → n < cfg0.N → Vec F S128x4096 .f32
  | 0, h => stepAt m c ⟨0, h⟩ (fun _ => FloatOps.ofBits .f32 0#32)
  | n + 1, h => stepAt m c ⟨n + 1, h⟩ (accAt c n (Nat.lt_of_succ_lt h))

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev ms0_0 (t : Fin cfg0.N) : Memref sig .tc .smem S1 .f32 := win0_0.stage (cfg0.slots t 0)
abbrev ms0_1 (t : Fin cfg0.N) : Memref sig .tc .vmem S128x1024 .bf16 := win0_1.stage (cfg0.slots t 1)
abbrev ms0_2 (t : Fin cfg0.N) : Memref sig .tc .vmem S1024x2048 .i8 := win0_2.stage (cfg0.slots t 2)
abbrev ms0_3 (t : Fin cfg0.N) : Memref sig .tc .vmem S1024x64 .i8 := win0_3.stage (cfg0.slots t 3)
abbrev ms0_4 (t : Fin cfg0.N) : Memref sig .tc .vmem S28x128 .f32 := win0_4.stage (cfg0.slots t 4)
abbrev ms0_5 (t : Fin cfg0.N) : Memref sig .tc .vmem S2x32x128 .i8 := win0_5.stage (cfg0.slots t 5)
abbrev ms0_6 (t : Fin cfg0.N) : Memref sig .tc .vmem S128x4096 .bf16 := win0_6.stage (cfg0.slots t 6)
/-- The scratch operands: whole scoped buffers of the kernel's own, passed beside the windows. -/
abbrev scM0_0 : Memref sig .tc .vmem S128x4096 .f32 := Memref.whole cc0_scratch0
abbrev scM0_1 : Memref sig .tc .vmem S512x128 .bf16 := Memref.whole cc0_scratch1
abbrev scM0_2 : Memref sig .tc .vmem S1024x256 .bf16 := Memref.whole cc0_scratch2
abbrev scM0_3 : Memref sig .tc .vmem S1024x256 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The invariant: the accumulator holds what the last point left, the other scratch buffers anything. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (accAt m c n hn) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (accAt m c (n - 1) (by omega)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `accAt`; the invariant the class's
    (`PhiS`: the class's `ΦA` before the first point, then the scoped rest with the carried scratch at `accAt`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (accAt m c t.val t.isLt)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay2 (accAt m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- Before a point the accumulator is one from which the point's step leads to `accAt`. -/
theorem Phi_in (c : Dev nD) (t : Fin cfg0.N) : (dats m 0 c).Φ t.castSucc ⊢
    iprop(∃ prev, ⌜stepAt m c t prev = accAt m c t.val t.isLt⌝ ∗ owns (c : Thread nD τ) scM0_0 fullShare prev
      ∗ (∃ d, owns (c : Thread nD τ) scM0_1 fullShare d) ∗ (∃ d, owns (c : Thread nD τ) scM0_2 fullShare d)
      ∗ (∃ d, owns (c : Thread nD τ) scM0_3 fullShare d) ∗ (∃ r, prngReg c r)) := by
  obtain ⟨n, hn⟩ := t
  cases n with
  | zero =>
    rw [PhiS_castSucc m c _, PhiS_zero m c _ _ rfl, PhiA0_eq]
    iintro ⟨⟨⟨%d, HS0⟩, HS1, HS2, HS3⟩, Hg⟩
    iexists d
    isplitr
    · ipureintro
      exact stepAcc_first _ ((cond1_iff _).mpr rfl) _ _ _ _ _ _ _ _
    isplitl [HS0]; · iexact HS0
    isplitl [HS1]; · iexact HS1
    isplitl [HS2]; · iexact HS2
    isplitl [HS3]; · iexact HS3
    iexact Hg
  | succ n =>
    rw [PhiS_castSucc m c _, PhiS_succ m c n (Nat.lt_of_succ_lt hn)]
    iintro ⟨⟨HS0, HS1, HS2, HS3⟩, Hg⟩
    iexists (accAt m c n (Nat.lt_of_succ_lt hn))
    isplitr
    · ipureintro
      rfl
    isplitl [HS0]; · iexact HS0
    isplitl [HS1]; · iexact HS1
    isplitl [HS2]; · iexact HS2
    isplitl [HS3]; · iexact HS3
    iexact Hg

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases hc : k0_cond5 (grid0.coords t) = 1#1
  · rw [show (dats m 0 c).leavesExact 6 t = owns (c : Thread nD τ) (ms0_6 t) fullShare ((dats m 0 c).after 6 t) from by
      unfold Dat.leavesExact; rw [live6 t hc], after0_6]
    iintro ⟨HΦ, Ho, ⟨%d0, H0⟩, ⟨%d1, H1⟩, ⟨%d2, H2⟩, ⟨%d3, H3⟩, ⟨%d4, H4⟩, ⟨%d5, H5⟩, ⟨%d6, H6⟩⟩
    icases (Phi_in m c t) $$ HΦ with ⟨%prev, %hp, HS0, HS1, HS2, HS3, Hg⟩
    iapply (body_last c (grid0.coords t) _ _ _ _ _ _ _ _ _ _ _ _ _ _ _ _ _ _ _ _ _ _ hc (iblk m c 0 t) (iblk m c 1 t) (iblk m c 2 t) (iblk m c 3 t) (iblk m c 4 t) (iblk m c 5 t) prev Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · rw [← hp]; iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← hp]; iexact H6
  · rw [Dat.leavesExact_idle (dats m 0 c) 6 t (idle6 t hc) (noFlush6 t hc)]
    iintro ⟨HΦ, Ho, ⟨%d0, H0⟩, ⟨%d1, H1⟩, ⟨%d2, H2⟩, ⟨%d3, H3⟩, ⟨%d4, H4⟩, ⟨%d5, H5⟩, ⟨%d6, H6⟩⟩
    icases (Phi_in m c t) $$ HΦ with ⟨%prev, %hp, HS0, HS1, HS2, HS3, Hg⟩
    iapply (body_mid c (grid0.coords t) _ _ _ _ _ _ _ _ _ _ _ _ _ _ _ _ _ _ _ _ _ _ hc (iblk m c 0 t) (iblk m c 1 t) (iblk m c 2 t) (iblk m c 3 t) (iblk m c 4 t) (iblk m c 5 t) _ prev Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · rw [← hp]; iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Codes.lean ====
/- The four-bit codes of a byte tile, and the sixteen-bit word each code stands for. -/
module

public import proofs.«01_k».proof.Proof.Gen.KernelIdeal.Skeleton
public import Idealize.ShloMosaic.Lib.BitcastFour
public import Idealize.ShloMosaic.Lib.Pointwise

@[expose] public section

noncomputable section

namespace Cert.KernelIdeal.Hand

open Cert.KernelIdeal.Gen
open Idealize.ShloMosaic

/-- The sixteen words of the code table, as `bf16` patterns. -/
def codeWord (n : Fin 16) : BitVec 16 :=
  ![0xBF80#16, 0xBF32#16, 0xBF06#16, 0xBECA#16, 0xBE92#16, 0xBE3D#16, 0xBDBA#16, 0x0000#16,
    0x3DA3#16, 0x3E25#16, 0x3E7C#16, 0x3EAD#16, 0x3EE2#16, 0x3F10#16, 0x3F39#16, 0x3F80#16] n

/-- The value a code stands for. -/
def codeVal (n : Fin 16) : EReal := Ideal.ofBits .bf16 (codeWord n)

/-- The low four bits of a byte. -/
def lowCode (b : BitVec 8) : Fin 16 := ⟨b.toNat % 16, by omega⟩

/-- The high four bits of a byte. -/
def highCode (b : BitVec 8) : Fin 16 := ⟨b.toNat / 16, by have := b.isLt; omega⟩

/-- A change of width along the rows, bit by bit, at a rank-two index. -/
theorem bitcast_bit {R r n v w : Nat} (x : (⟨2, ![R, n]⟩ : Shape).Idx → BitVec v)
    (h : (⟨2, ![R, n]⟩ : Shape).Bitcasts v ⟨2, ![r, n]⟩ w) (hv : 0 < v) (a : Fin r) (l : Fin n) (q : Nat) (hq : q < w)
    (p : Fin R) (hp : p.val = (a.val * w + q) / v) :
    (bitcast ⟨2, ![r, n]⟩ w x h (ix2 a l)).getLsbD q = (x (ix2 p l)).getLsbD ((a.val * w + q) % v) := by
  rw [ix2_eq_valueIdx, ix2_eq_valueIdx, bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Bytes read as words and the words as half-words: half-word `s` is the bytes of rows `2s` and `2s + 1`. -/
theorem halves (x : S32x128.Idx → BitVec 8) (s : Fin 16) (l : Fin 128) :
    bitcast S16x128 16 (bitcast S8x128 32 x bitcasts_S32x128_w8_S8x128_w32) bitcasts_S8x128_w32_S16x128_w16 (ix2 s l)
      = x (ix2 ⟨2 * s.val + 1, by omega⟩ l) ++ x (ix2 ⟨2 * s.val, by omega⟩ l) := by
  apply BitVec.eq_of_getLsbD_eq
  intro q hq
  rw [bitcast_bit _ _ (by decide) s l q hq ⟨(s.val * 16 + q) / 32, by omega⟩ rfl,
    bitcast_bit _ _ (by decide) ⟨(s.val * 16 + q) / 32, by omega⟩ l ((s.val * 16 + q) % 32) (by omega)
      ⟨2 * s.val + q / 8, by omega⟩ (by show 2 * s.val + q / 8 = ((s.val * 16 + q) / 32 * 32 + (s.val * 16 + q) % 32) / 8; omega),
    BitVec.getLsbD_append]
  have e : ((s.val * 16 + q) / 32 * 32 + (s.val * 16 + q) % 32) % 8 = q % 8 := by omega
  show (x (ix2 _ l)).getLsbD (((s.val * 16 + q) / 32 * 32 + (s.val * 16 + q) % 32) % 8) = _
  rw [e]
  by_cases h : q < 8
  · simp only [h, decide_true, cond_true]
    congr 2 <;> first | omega | (congr 1; apply Fin.ext; show 2 * s.val + q / 8 = 2 * s.val; omega)
  · simp only [h, decide_false, cond_false]
    congr 2 <;> first | omega | (congr 1; apply Fin.ext; show 2 * s.val + q / 8 = 2 * s.val + 1; omega)

/-- The word of four bytes that spreads the four codes of two bytes. -/
def spread (w : BitVec 16) : BitVec 32 :=
  ((w.signExtend 32 &&& 15#32) ||| ((w.signExtend 32 &&& 240#32) <<< 4) ||| ((w.signExtend 32 &&& 3840#32) <<< 8))
    ||| ((w.signExtend 32 &&& 61440#32) <<< 12)

/-- Byte `k` of the spread word is code `k` of the two bytes. -/
theorem spread_bit (a b : BitVec 8) (k : Fin 4) (q : Fin 8) :
    (spread (b ++ a)).getLsbD (8 * k.val + q.val)
      = (![a &&& 15#8, a >>> 4, b &&& 15#8, b >>> 4] k).getLsbD q.val := by
  fin_cases k <;> fin_cases q <;>
    simp [spread, BitVec.getLsbD_append, BitVec.getLsbD_signExtend, BitVec.getElem_signExtend] <;>
    exact (BitVec.getElem_append (x := b) (y := a) (by omega)).trans (by simp)

/-- The bytes of the tile's codes, first the low code of a byte and then the high one. -/
theorem codes_word (w : Vec Ideal S32x128 .i8) (s : Fin 16) (l : Fin 128) (k : Fin 4) (r : Fin 64) (hr : r.val = 4 * s.val + k.val) :
    k0_pay14 w (ix2 r l)
      = ![w (ix2 ⟨2 * s.val, by omega⟩ l) &&& 15#8, w (ix2 ⟨2 * s.val, by omega⟩ l) >>> 4,
          w (ix2 ⟨2 * s.val + 1, by omega⟩ l) &&& 15#8, w (ix2 ⟨2 * s.val + 1, by omega⟩ l) >>> 4] k := by
  apply BitVec.eq_of_getLsbD_eq
  intro q hq
  rw [k0_pay14, bitcast_bit _ _ (by decide) r l q hq s (by omega)]
  have e : (r.val * 8 + q) % 32 = 8 * k.val + q := by omega
  show BitVec.getLsbD (spread (bitcast S16x128 16 (bitcast S8x128 32 w bitcasts_S32x128_w8_S8x128_w32) bitcasts_S8x128_w32_S16x128_w16 (ix2 s l))) ((r.val * 8 + q) % 32) = _
  rw [e, halves]
  exact spread_bit _ _ k ⟨q, hq⟩

/-- The even rows of the codes are the low codes. -/
theorem codes_even (w : Vec Ideal S32x128 .i8) (p : Fin 32) (l : Fin 128) (r : Fin 64) (hr : r.val = 2 * p.val) :
    k0_pay14 w (ix2 r l) = w (ix2 p l) &&& 15#8 := by
  rcases Nat.mod_two_eq_zero_or_one p.val with h | h
  · have e : (⟨2 * (p.val / 2), by omega⟩ : Fin 32) = p := Fin.ext (by show 2 * (p.val / 2) = p.val; omega)
    rw [codes_word w ⟨p.val / 2, by omega⟩ l 0 r (by show r.val = 4 * (p.val / 2) + 0; omega)]
    exact congrArg (fun p => w (ix2 p l) &&& 15#8) e
  · have e : (⟨2 * (p.val / 2) + 1, by omega⟩ : Fin 32) = p := Fin.ext (by show 2 * (p.val / 2) + 1 = p.val; omega)
    rw [codes_word w ⟨p.val / 2, by omega⟩ l 2 r (by show r.val = 4 * (p.val / 2) + 2; omega)]
    exact congrArg (fun p => w (ix2 p l) &&& 15#8) e

/-- The odd rows of the codes are the high codes. -/
theorem codes_odd (w : Vec Ideal S32x128 .i8) (p : Fin 32) (l : Fin 128) (r : Fin 64) (hr : r.val = 2 * p.val + 1) :
    k0_pay14 w (ix2 r l) = w (ix2 p l) >>> 4 := by
  rcases Nat.mod_two_eq_zero_or_one p.val with h | h
  · have e : (⟨2 * (p.val / 2), by omega⟩ : Fin 32) = p := Fin.ext (by show 2 * (p.val / 2) = p.val; omega)
    rw [codes_word w ⟨p.val / 2, by omega⟩ l 1 r (by show r.val = 4 * (p.val / 2) + 1; omega)]
    exact congrArg (fun p => w (ix2 p l) >>> 4) e
  · have e : (⟨2 * (p.val / 2) + 1, by omega⟩ : Fin 32) = p := Fin.ext (by show 2 * (p.val / 2) + 1 = p.val; omega)
    rw [codes_word w ⟨p.val / 2, by omega⟩ l 3 r (by show r.val = 4 * (p.val / 2) + 3; omega)]
    exact congrArg (fun p => w (ix2 p l) >>> 4) e

/-- The mask of the low byte of each half-word, bit by bit. -/
theorem mask_bit (i : Nat) (h : i < 32) : (16711935#32).getLsbD i = decide (i % 16 < 8) := by
  have : ∀ i : Fin 32, (16711935#32).getLsbD i.val = decide (i.val % 16 < 8) := by decide
  exact this ⟨i, h⟩

/-- The bytes of two tables joined on the even rows: half-word `s` is the low and the high byte of row `2s`. -/
theorem even_word (lb hb : S32x128.Idx → BitVec 8) (s : Fin 16) (l : Fin 128) :
    bitcast S16x128 16 (ori (andi (bitcast S8x128 32 lb bitcasts_S32x128_w8_S8x128_w32) (broadcast S8x128 16711935#32))
        (shli (andi (bitcast S8x128 32 hb bitcasts_S32x128_w8_S8x128_w32) (broadcast S8x128 16711935#32)) (broadcast S8x128 8#32)))
      bitcasts_S8x128_w32_S16x128_w16 (ix2 s l)
      = hb (ix2 ⟨2 * s.val, by omega⟩ l) ++ lb (ix2 ⟨2 * s.val, by omega⟩ l) := by
  apply BitVec.eq_of_getLsbD_eq
  intro q hq
  rw [bitcast_bit _ _ (by decide) s l q hq ⟨(s.val * 16 + q) / 32, by omega⟩ rfl, BitVec.getLsbD_append]
  set i := (s.val * 16 + q) % 32 with hi
  have hi32 : i < 32 := by omega
  show BitVec.getLsbD ((bitcast S8x128 32 lb bitcasts_S32x128_w8_S8x128_w32 (ix2 ⟨(s.val * 16 + q) / 32, _⟩ l) &&& 16711935#32) |||
    ((bitcast S8x128 32 hb bitcasts_S32x128_w8_S8x128_w32 (ix2 ⟨(s.val * 16 + q) / 32, _⟩ l) &&& 16711935#32) <<< 8)) i = _
  rw [BitVec.getLsbD_or, BitVec.getLsbD_shiftLeft, BitVec.getLsbD_and, BitVec.getLsbD_and, mask_bit i hi32, mask_bit (i - 8) (by omega)]
  by_cases h : q < 8
  · have h1 : i % 16 < 8 := by omega
    have h2 : i < 8 ∨ ¬ (i - 8) % 16 < 8 := by omega
    rw [bitcast_bit lb _ (by decide) ⟨(s.val * 16 + q) / 32, by omega⟩ l i hi32 ⟨2 * s.val, by omega⟩
      (by show 2 * s.val = ((s.val * 16 + q) / 32 * 32 + i) / 8; omega)]
    have e : ((s.val * 16 + q) / 32 * 32 + i) % 8 = q := by omega
    show ((lb _).getLsbD (((s.val * 16 + q) / 32 * 32 + i) % 8) && _ || _) = _
    rw [e]
    rcases h2 with h2 | h2 <;> simp [h, h1, h2]
  · have h1 : ¬ i % 16 < 8 := by omega
    have h2 : (i - 8) % 16 < 8 := by omega
    have h3 : ¬ i < 8 := by omega
    rw [bitcast_bit hb _ (by decide) ⟨(s.val * 16 + q) / 32, by omega⟩ l (i - 8) (by omega) ⟨2 * s.val, by omega⟩
      (by show 2 * s.val = ((s.val * 16 + q) / 32 * 32 + (i - 8)) / 8; omega)]
    have e : ((s.val * 16 + q) / 32 * 32 + (i - 8)) % 8 = q - 8 := by omega
    show (_ || _ && ((hb _).getLsbD (((s.val * 16 + q) / 32 * 32 + (i - 8)) % 8) && _)) = _
    rw [e]
    simp [h, h1, h2, h3, hi32]

/-- The bytes of two tables joined on the odd rows: half-word `s` is the low and the high byte of row `2s + 1`. -/
theorem odd_word (lb hb : S32x128.Idx → BitVec 8) (odd : IVec S32x128 1)
    (hodd : ∀ r l, odd (ix2 r l) = if r.val % 2 = 1 then 1#1 else 0#1) (s : Fin 16) (l : Fin 128) :
    bitcast S16x128 16 (bitcast S8x128 32 (select odd hb (bitcast S32x128 8 (shrui (bitcast S8x128 32 lb bitcasts_S32x128_w8_S8x128_w32)
      (broadcast S8x128 8#32)) bitcasts_S8x128_w32_S32x128_w8)) bitcasts_S32x128_w8_S8x128_w32) bitcasts_S8x128_w32_S16x128_w16 (ix2 s l)
      = hb (ix2 ⟨2 * s.val + 1, by omega⟩ l) ++ lb (ix2 ⟨2 * s.val + 1, by omega⟩ l) := by
  rw [halves]
  have o1 : odd (ix2 ⟨2 * s.val + 1, by omega⟩ l) = 1#1 := by rw [hodd, if_pos (by show (2 * s.val + 1) % 2 = 1; omega)]
  have o0 : odd (ix2 ⟨2 * s.val, by omega⟩ l) = 0#1 := by rw [hodd, if_neg (by show ¬ (2 * s.val) % 2 = 1; omega)]
  congr 1
  · rw [ValueIdx.select_apply, o1, ValueIdx.select_one]
  · rw [ValueIdx.select_apply, o0, ValueIdx.select_zero]
    apply BitVec.eq_of_getLsbD_eq
    intro q hq
    rw [bitcast_bit _ _ (by decide) _ l q hq ⟨s.val / 2, by omega⟩ (by show s.val / 2 = (2 * s.val * 8 + q) / 32; omega)]
    show BitVec.getLsbD (bitcast S8x128 32 lb bitcasts_S32x128_w8_S8x128_w32 (ix2 ⟨s.val / 2, _⟩ l) >>> 8) ((2 * s.val * 8 + q) % 32) = _
    rw [BitVec.getLsbD_ushiftRight, bitcast_bit lb _ (by decide) _ l _ (by omega) ⟨2 * s.val + 1, by omega⟩
      (by show 2 * s.val + 1 = (s.val / 2 * 32 + (8 + (2 * s.val * 8 + q) % 32)) / 8; omega)]
    have e : (s.val / 2 * 32 + (8 + (2 * s.val * 8 + q) % 32)) % 8 = q := by omega
    show (lb _).getLsbD ((s.val / 2 * 32 + (8 + (2 * s.val * 8 + q) % 32)) % 8) = _
    rw [e]

end Cert.KernelIdeal.Hand
-- ==== Proof.Words.lean ====
/- The sixteen-bit words a byte tile expands to: the table's word at each code of the tile. -/
module

public import proofs.«01_k».proof.Proof.Codes

@[expose] public section

noncomputable section

namespace Cert.KernelIdeal.Hand

open Cert.KernelIdeal.Gen
open Idealize.ShloMosaic

/-- A gather down the rows, at an index. -/
theorem gather_rows {α : Type} {R n : Nat} (hR : 0 < R) (x : (⟨2, ![R, n]⟩ : Shape).Idx → α) (idx : IVec ⟨2, ![R, n]⟩ 32) (r : Fin R) (l : Fin n) :
    dynamicGather 0 x idx (ix2 r l) = x (ix2 ⟨(idx (ix2 r l)).toNat % R, Nat.mod_lt _ hR⟩ l) := by
  refine congrArg x (funext fun b => ?_)
  match b with
  | ⟨0, _⟩ => rfl
  | ⟨1, _⟩ => rfl

/-- A gather along the lanes, at an index. -/
theorem gather_lanes {α : Type} {R n : Nat} (hn : 0 < n) (x : (⟨2, ![R, n]⟩ : Shape).Idx → α) (idx : IVec ⟨2, ![R, n]⟩ 32) (r : Fin R) (l : Fin n) :
    dynamicGather 1 x idx (ix2 r l) = x (ix2 r ⟨(idx (ix2 r l)).toNat % n, Nat.mod_lt _ hn⟩) := by
  refine congrArg x (funext fun b => ?_)
  match b with
  | ⟨0, _⟩ => rfl
  | ⟨1, _⟩ => rfl

theorem pay15_at (w : Vec Ideal S32x128 .i8) (r : Fin 32) (l : Fin 128) : k0_pay15 w (ix2 r l) = k0_pay14 w (ix2 ⟨r.val, by omega⟩ l) := by
  pointwise [k0_pay15]

theorem pay26_at (c : IVec S64x128 8) (r : Fin 32) (l : Fin 128) : k0_pay26 c (ix2 r l) = c (ix2 ⟨32 + r.val, by omega⟩ l) := by
  pointwise [k0_pay26]

/-- Reshaping to one more unit axis and back changes nothing. -/
theorem index_cast (x : IVec S32x128 32) :
    shapeCast S32x128 (shapeCast S32x128x1 x shapeCasts_S32x128_S32x128x1) shapeCasts_S32x128x1_S32x128 = x := by
  funext j
  idx_vars j
  pointwise

/-- A byte table gathered at codes: one element. -/
theorem gather_codes (tab c : IVec S32x128 8) (r : Fin 32) (l : Fin 128) :
    dynamicGather 0 tab (shapeCast S32x128 (shapeCast S32x128x1 (extsi 32 c natLt_8_32) shapeCasts_S32x128_S32x128x1) shapeCasts_S32x128x1_S32x128)
      (ix2 r l) = tab (ix2 ⟨((c (ix2 r l)).signExtend 32).toNat % 32, by omega⟩ l) := by
  rw [index_cast, gather_rows (by decide)]
  rfl

/-- A code as a gather index. -/
theorem code_index (c : BitVec 8) (n : Fin 16) (h : c.toNat = n.val) : (c.signExtend 32).toNat % 32 = n.val := by
  have hn := n.isLt
  have hm : c.msb = false := by rw [BitVec.msb_eq_false_iff_two_mul_lt]; omega
  rw [BitVec.signExtend_eq_setWidth_of_msb_false hm, BitVec.toNat_setWidth]
  omega

theorem lowCode_toNat (b : BitVec 8) : (b &&& 15#8).toNat = (lowCode b).val := by
  rw [BitVec.toNat_and]
  exact Nat.and_two_pow_sub_one_eq_mod b.toNat 4

theorem highCode_toNat (b : BitVec 8) : (b >>> 4).toNat = (highCode b).val := by
  rw [BitVec.toNat_ushiftRight, Nat.shiftRight_eq_div_pow]
  rfl

/-- The two byte tables hold the low and the high byte of the code table, in every lane. -/
def TableBytes (tl th : IVec S32x128 8) : Prop :=
  ∀ (i : Fin 32) (l : Fin 128), th (ix2 i l) ++ tl (ix2 i l) = codeWord ⟨i.val % 16, by omega⟩

/-- Gathering both tables at a code gives the two bytes of its word. -/
theorem table_at {tl th : IVec S32x128 8} (ht : TableBytes tl th) (c : BitVec 8) (n : Fin 16) (h : c.toNat = n.val) (l : Fin 128) :
    th (ix2 ⟨(c.signExtend 32).toNat % 32, by omega⟩ l) ++ tl (ix2 ⟨(c.signExtend 32).toNat % 32, by omega⟩ l) = codeWord n := by
  rw [ht]
  congr 1
  apply Fin.ext
  show (c.signExtend 32).toNat % 32 % 16 = n.val
  rw [code_index c n h]
  omega

/-- The two tables gathered at the same codes, joined. -/
theorem gathered {tl th : IVec S32x128 8} (ht : TableBytes tl th) (c : IVec S32x128 8) (r : Fin 32) (l : Fin 128) (n : Fin 16)
    (h : (c (ix2 r l)).toNat = n.val) :
    dynamicGather 0 th (shapeCast S32x128 (shapeCast S32x128x1 (extsi 32 c natLt_8_32) shapeCasts_S32x128_S32x128x1) shapeCasts_S32x128x1_S32x128) (ix2 r l)
      ++ dynamicGather 0 tl (shapeCast S32x128 (shapeCast S32x128x1 (extsi 32 c natLt_8_32) shapeCasts_S32x128_S32x128x1) shapeCasts_S32x128x1_S32x128) (ix2 r l)
      = codeWord n := by
  rw [gather_codes, gather_codes]
  exact table_at ht _ _ h l

/-- Half zero of the tile: the words of the low codes of byte rows 0 to 15. -/
theorem low_words0 {tl th : IVec S32x128 8} (ht : TableBytes tl th)
    (w : Vec Ideal S32x128 .i8) (s : Fin 16) (l : Fin 128) :
    bitcast S16x128 16 (k0_pay19 tl th (k0_pay15 w) (k0_pay16 w))
      bitcasts_S8x128_w32_S16x128_w16 (ix2 s l)
      = codeWord (lowCode (w (ix2 ⟨s.val, by omega⟩ l))) := by
  refine (even_word _ _ s l).trans ?_
  refine gathered ht _ _ l _ ?_
  rw [pay15_at, codes_even w ⟨s.val, by omega⟩ l _ (by rfl)]
  exact lowCode_toNat _

/-- Half one of the tile: the words of the low codes of byte rows 16 to 31. -/
theorem low_words1 {tl th : IVec S32x128 8} (ht : TableBytes tl th)
    (w : Vec Ideal S32x128 .i8) (s : Fin 16) (l : Fin 128) :
    bitcast S16x128 16 (k0_pay29 tl th (k0_pay14 w))
      bitcasts_S8x128_w32_S16x128_w16 (ix2 s l)
      = codeWord (lowCode (w (ix2 ⟨16 + s.val, by omega⟩ l))) := by
  refine (even_word _ _ s l).trans ?_
  refine gathered ht _ _ l _ ?_
  rw [pay26_at, codes_even w ⟨16 + s.val, by omega⟩ l _ (by show 32 + 2 * s.val = 2 * (16 + s.val); omega)]
  exact lowCode_toNat _

/-- Half zero of the tile: the words of the high codes of byte rows 0 to 15. -/
theorem high_words0 {tl th : IVec S32x128 8} (ht : TableBytes tl th) (odd : IVec S32x128 1)
    (hodd : ∀ r l, odd (ix2 r l) = if r.val % 2 = 1 then 1#1 else 0#1) (w : Vec Ideal S32x128 .i8) (s : Fin 16) (l : Fin 128) :
    bitcast S16x128 16 (bitcast S8x128 32 (k0_pay20 tl th odd (k0_pay15 w) (k0_pay16 w)) bitcasts_S32x128_w8_S8x128_w32)
      bitcasts_S8x128_w32_S16x128_w16 (ix2 s l)
      = codeWord (highCode (w (ix2 ⟨s.val, by omega⟩ l))) := by
  refine (odd_word _ _ odd hodd s l).trans ?_
  refine gathered ht _ _ l _ ?_
  rw [pay15_at, codes_odd w ⟨s.val, by omega⟩ l _ (by rfl)]
  exact highCode_toNat _

/-- Half one of the tile: the words of the high codes of byte rows 16 to 31. -/
theorem high_words1 {tl th : IVec S32x128 8} (ht : TableBytes tl th) (odd : IVec S32x128 1)
    (hodd : ∀ r l, odd (ix2 r l) = if r.val % 2 = 1 then 1#1 else 0#1) (w : Vec Ideal S32x128 .i8) (s : Fin 16) (l : Fin 128) :
    bitcast S16x128 16 (bitcast S8x128 32 (k0_pay30 tl th odd (k0_pay14 w)) bitcasts_S32x128_w8_S8x128_w32)
      bitcasts_S8x128_w32_S16x128_w16 (ix2 s l)
      = codeWord (highCode (w (ix2 ⟨16 + s.val, by omega⟩ l))) := by
  refine (odd_word _ _ odd hodd s l).trans ?_
  refine gathered ht _ _ l _ ?_
  rw [pay26_at, codes_odd w ⟨16 + s.val, by omega⟩ l _ (by show 32 + (2 * s.val + 1) = 2 * (16 + s.val) + 1; omega)]
  exact highCode_toNat _

end Cert.KernelIdeal.Hand
-- ==== Proof.Tiles.lean ====
/- One element of an expanded weight tile: the code's value times its row's block scale. -/
module

public import proofs.«01_k».proof.Proof.Words
public import proofs.«01_k».proof.Proof.Body

@[expose] public section

noncomputable section

namespace Cert.KernelIdeal.Hand

open Cert.KernelIdeal.Gen
open Idealize.ShloMosaic

theorem lane_upper : ∀ l : Fin 128, (k0_pay39 (ix2 0 l)) = BitVec.ofNat 32 (l.val / 64) := by
  decide +kernel

theorem pay39_at (s : Fin 8) (l : Fin 128) : k0_pay39 (ix2 s l) = BitVec.ofNat 32 (l.val / 64) :=
  lane_upper l

theorem pay40_at (s : Fin 16) (l : Fin 128) : k0_pay40 (ix2 s l) = BitVec.ofNat 32 (l.val / 64) := by
  rw [k0_pay40]
  pointwise
  split <;> exact pay39_at _ l

theorem odd_at (r : Fin 32) (l : Fin 128) : k0_pay44 (ix2 r l) = if r.val % 2 = 1 then 1#1 else 0#1 := by
  have h : ∀ r : Fin 32, k0_pay44 (ix2 r 0) = if r.val % 2 = 1 then 1#1 else 0#1 := by decide +kernel
  exact h r

/-- The lane of the block scales the low half of the outputs reads. -/
def scaleLane (n : Fin k0_t3_loop.trips) (t4 : Fin k0_t4_loop.trips) (u : Fin 2) : BitVec 32 :=
  Scalar.addi (Scalar.muli 64#32 (Scalar.andi (rowTile t4) 1#32)) (Scalar.muli 2#32 (colGroup (tripWord n.val) t4))
    + BitVec.ofNat 32 u.val

theorem scaleLane_eq : ∀ (n : Fin k0_t3_loop.trips) (t4 : Fin k0_t4_loop.trips) (u : Fin 2),
    (scaleLane n t4 u).toNat = 64 * (t4.val / 8 % 2) + (4 * n.val + 2 * (t4.val / 32) + u.val) := by decide +kernel

/-- The lane of the block scales the high half of the outputs reads. -/
theorem scaleLaneHi_eq : ∀ (n : Fin k0_t3_loop.trips) (t4 : Fin k0_t4_loop.trips) (u : Fin 2),
    (Scalar.addi (Scalar.addi (Scalar.muli 64#32 (Scalar.andi (rowTile t4) 1#32)) (Scalar.muli 2#32 (colGroup (tripWord n.val) t4))) 32#32
      + BitVec.ofNat 32 u.val).toNat = 64 * (t4.val / 8 % 2) + (32 + (4 * n.val + 2 * (t4.val / 32) + u.val)) := by decide +kernel

/-- A part of a matrix read at an index. -/
theorem ld_at {α : EltTy} {R C r c : ℕ} (X : Vec Ideal ⟨2, ![R, C]⟩ α) (off : Fin 2 → ℕ)
    (inb : ∀ d, off d + (![r, c] : Fin 2 → ℕ) d ≤ (![R, C] : Fin 2 → ℕ) d) (a : Fin r) (b : Fin c) (p : Fin R) (q : Fin C)
    (hp : off 0 + a.val = p.val) (hq : off 1 + b.val = q.val) :
    View.ld X (Rect.unit (s := ⟨2, ![R, C]⟩) off ![r, c] inb) (ix2 a b) = X (ix2 p q) := by
  refine congrArg X (funext fun d => ?_)
  match d with
  | ⟨0, _⟩ => exact Fin.ext (by show off 0 + 1 * a.val = p.val; omega)
  | ⟨1, _⟩ => exact Fin.ext (by show off 1 + 1 * b.val = q.val; omega)

theorem scale_index_cast (x : IVec S16x128 32) :
    shapeCast S16x128 (shapeCast S16x128x1 x shapeCasts_S16x128_S16x128x1) shapeCasts_S16x128x1_S16x128 = x := by
  funext j
  idx_vars j
  pointwise

theorem cast_same (x : FVec Ideal S16x128 .bf16) : shapeCast S16x128 x shapeCasts_S16x128_S16x128 = x := by
  funext j
  idx_vars j
  pointwise

/-- A row of block scales gathered along the lanes. -/
theorem scale_gather (a : Vec Ideal S16x128 .bf16) (base : BitVec 32) (s : Fin 16) (l : Fin 128) (q : Fin 128)
    (hq : (base + BitVec.ofNat 32 (l.val / 64)).toNat = q.val) :
    (truncf .bf16 (dynamicGather 1 (extf .f32 a bitsLt_bf16_f32 : FVec Ideal S16x128 .f32)
      (shapeCast S16x128 (shapeCast S16x128x1 (addi (broadcast S16x128 base) k0_pay40) shapeCasts_S16x128_S16x128x1) shapeCasts_S16x128x1_S16x128))
      bitsLt_bf16_f32 : FVec Ideal S16x128 .bf16) (ix2 s l) = a (ix2 s q) := by
  rw [scale_index_cast]
  show dynamicGather 1 a _ (ix2 s l) = _
  rw [gather_lanes (by decide)]
  refine congrArg (fun z => a (ix2 s z)) (Fin.ext ?_)
  show (base + k0_pay40 (ix2 s l)).toNat % 128 = q.val
  rw [pay40_at, hq]
  exact Nat.mod_eq_of_lt q.isLt

/-- An element of a tile of even outputs' weights. -/
theorem loTile_at {tl th : IVec S32x128 8} (ht : TableBytes tl th) (w : Vec Ideal S1024x2048 .i8) (a : Vec Ideal S512x128 .bf16)
    (n : Fin k0_t3_loop.trips) (t4 : Fin k0_t4_loop.trips) (r : Fin 2) (s : Fin 16) (l : Fin 128) (q : Fin 128)
    (hq : q.val = 64 * (t4.val / 8 % 2) + ((4 * n.val + 2 * (t4.val / 32) + l.val / 64))) :
    loTile k0_pay40 tl th (tripWord n.val) w a n t4 r (ix2 s l)
      = codeVal (lowCode (wLoad w n t4 (ix2 ⟨16 * r.val + s.val, by omega⟩ l))) * aLoad a t4 r (ix2 s q) := by
  have hs := (scaleLane_eq n t4 ⟨l.val / 64, by omega⟩).trans hq.symm
  fin_cases r
  · show k0_pay24 _ _ (ix2 s l) = _
    rw [k0_pay24, cast_same]
    show Ideal.ofBits .bf16 _ * _ = _
    rw [low_words0 ht, k0_pay22, k0_pay21]
    refine congrArg₂ (· * ·) (congrArg (fun z => codeVal (lowCode (wLoad w n t4 (ix2 z l)))) (Fin.ext ?_)) (scale_gather _ _ s l q hs)
    show s.val = 16 * 0 + s.val
    omega
  · show k0_pay32 _ _ _ _ _ (ix2 s l) = _
    rw [k0_pay32, cast_same]
    show Ideal.ofBits .bf16 _ * _ = _
    rw [low_words1 ht, k0_pay31]
    exact congrArg₂ (· * ·) rfl (scale_gather _ _ s l q hs)

/-- An element of a tile of odd outputs' weights. -/
theorem hiTile_at {tl th : IVec S32x128 8} (ht : TableBytes tl th) (w : Vec Ideal S1024x2048 .i8) (a : Vec Ideal S512x128 .bf16)
    (n : Fin k0_t3_loop.trips) (t4 : Fin k0_t4_loop.trips) (r : Fin 2) (s : Fin 16) (l : Fin 128) (q : Fin 128)
    (hq : q.val = 64 * (t4.val / 8 % 2) + (32 + (4 * n.val + 2 * (t4.val / 32) + l.val / 64))) :
    hiTile k0_pay40 tl th k0_pay44 (tripWord n.val) w a n t4 r (ix2 s l)
      = codeVal (highCode (wLoad w n t4 (ix2 ⟨16 * r.val + s.val, by omega⟩ l))) * aLoad a t4 r (ix2 s q) := by
  have hs := (scaleLaneHi_eq n t4 ⟨l.val / 64, by omega⟩).trans hq.symm
  fin_cases r
  · show k0_pay25 _ _ (ix2 s l) = _
    rw [k0_pay25, cast_same]
    show Ideal.ofBits .bf16 _ * _ = _
    rw [high_words0 ht _ odd_at, k0_pay23, k0_pay21]
    refine congrArg₂ (· * ·) (congrArg (fun z => codeVal (highCode (wLoad w n t4 (ix2 z l)))) (Fin.ext ?_)) (scale_gather _ _ s l q hs)
    show s.val = 16 * 0 + s.val
    omega
  · show k0_pay33 _ _ _ _ _ (ix2 s l) = _
    rw [k0_pay33, cast_same]
    show Ideal.ofBits .bf16 _ * _ = _
    rw [high_words1 ht _ odd_at, k0_pay31]
    exact congrArg₂ (· * ·) rfl (scale_gather _ _ s l q hs)

theorem off5_eq : ∀ (t3 : Fin k0_t3_loop.trips) (t4 : Fin k0_t4_loop.trips),
    k0_off5 t3 t4 = ![32 * (t4.val % 32), 256 * t3.val + 128 * (t4.val / 32)] := by decide +kernel

theorem off6_eq : ∀ (t4 : Fin k0_t4_loop.trips) (r : Fin 2), k0_off6 t4 (BitVec.ofNat 32 (16 * r.val))
    = ![256 * (t4.val / 8 % 4 / 2) + 32 * (t4.val % 8) + 16 * r.val, 0] := by decide +kernel

theorem wLoad_at (w : Vec Ideal S1024x2048 .i8) (n : Fin k0_t3_loop.trips) (t4 : Fin k0_t4_loop.trips) (s : Fin 32) (l : Fin 128)
    (p : Fin 1024) (q : Fin 2048) (hp : p.val = 32 * (t4.val % 32) + s.val) (hq : q.val = 256 * n.val + 128 * (t4.val / 32) + l.val) :
    wLoad w n t4 (ix2 s l) = w (ix2 p q) := by
  have h := off5_eq n t4
  exact ld_at w (k0_off5 n t4) (k0_off5_inb n t4) s l p q (by rw [h, hp]; rfl) (by rw [h, hq]; rfl)

theorem aLoad_at (a : Vec Ideal S512x128 .bf16) (t4 : Fin k0_t4_loop.trips) (r : Fin 2) (s : Fin 16) (l : Fin 128)
    (p : Fin 512) (hp : p.val = 256 * (t4.val / 8 % 4 / 2) + 32 * (t4.val % 8) + 16 * r.val + s.val) :
    aLoad a t4 r (ix2 s l) = a (ix2 p l) := by
  have h := off6_eq t4 r
  exact ld_at a (k0_off6 t4 (BitVec.ofNat 32 (16 * r.val))) (k0_off6_inb t4 r) s l p l (by rw [h, hp]; rfl) (by rw [h]; exact Nat.zero_add _)

/-- An element of the even outputs' weights of pair `n`. -/
theorem stepLo_at (x2 : Vec Ideal S1024x2048 .i8) (x5 : Vec Ideal S2x32x128 .i8) (ht : TableBytes (tabLo x5) (tabHi x5))
    (a : Vec Ideal S512x128 .bf16) (n : Fin k0_t3_loop.trips) (r : Fin 1024) (j : Fin 256) (c : Fin 2048) (hc : c.val = 256 * n.val + j.val) :
    stepLo x2 x5 a n (ix2 r j) = codeVal (lowCode (x2 (ix2 r c)))
      * a (ix2 ⟨256 * (r.val / 512) + r.val % 256, by omega⟩ ⟨64 * (r.val / 256 % 2) + (c.val / 64), by omega⟩) := by
  have hr := r.isLt
  have hj := j.isLt
  unfold stepLo wSpec
  refine (congrArg _ (ix2_eq_valueIdx _ _).symm).trans ?_
  rw [loTile_at ht x2 a n _ _ _ _ ⟨64 * (r.val / 256 % 2) + (c.val / 64), by omega⟩
    (by show 64 * (r.val / 256 % 2) + (c.val / 64) = 64 * ((32 * (j.val / 128) + r.val / 32) / 8 % 2) + ((4 * n.val + 2 * ((32 * (j.val / 128) + r.val / 32) / 32) + j.val % 128 / 64)); omega),
    wLoad_at x2 n _ _ _ r c
      (by show r.val = 32 * ((32 * (j.val / 128) + r.val / 32) % 32) + (16 * (r.val % 32 / 16) + r.val % 16); omega)
      (by show c.val = 256 * n.val + 128 * ((32 * (j.val / 128) + r.val / 32) / 32) + j.val % 128; omega),
    aLoad_at a _ _ _ _ ⟨256 * (r.val / 512) + r.val % 256, by omega⟩
      (by show 256 * (r.val / 512) + r.val % 256 = 256 * ((32 * (j.val / 128) + r.val / 32) / 8 % 4 / 2) + 32 * ((32 * (j.val / 128) + r.val / 32) % 8) + 16 * (r.val % 32 / 16) + r.val % 16; omega)]

/-- An element of the odd outputs' weights of pair `n`. -/
theorem stepHi_at (x2 : Vec Ideal S1024x2048 .i8) (x5 : Vec Ideal S2x32x128 .i8) (ht : TableBytes (tabLo x5) (tabHi x5))
    (a : Vec Ideal S512x128 .bf16) (n : Fin k0_t3_loop.trips) (r : Fin 1024) (j : Fin 256) (c : Fin 2048) (hc : c.val = 256 * n.val + j.val) :
    stepHi x2 x5 a n (ix2 r j) = codeVal (highCode (x2 (ix2 r c)))
      * a (ix2 ⟨256 * (r.val / 512) + r.val % 256, by omega⟩ ⟨64 * (r.val / 256 % 2) + (32 + c.val / 64), by omega⟩) := by
  have hr := r.isLt
  have hj := j.isLt
  unfold stepHi wSpec
  refine (congrArg _ (ix2_eq_valueIdx _ _).symm).trans ?_
  rw [hiTile_at ht x2 a n _ _ _ _ ⟨64 * (r.val / 256 % 2) + (32 + c.val / 64), by omega⟩
    (by show 64 * (r.val / 256 % 2) + (32 + c.val / 64) = 64 * ((32 * (j.val / 128) + r.val / 32) / 8 % 2) + (32 + (4 * n.val + 2 * ((32 * (j.val / 128) + r.val / 32) / 32) + j.val % 128 / 64)); omega),
    wLoad_at x2 n _ _ _ r c
      (by show r.val = 32 * ((32 * (j.val / 128) + r.val / 32) % 32) + (16 * (r.val % 32 / 16) + r.val % 16); omega)
      (by show c.val = 256 * n.val + 128 * ((32 * (j.val / 128) + r.val / 32) / 32) + j.val % 128; omega),
    aLoad_at a _ _ _ _ ⟨256 * (r.val / 512) + r.val % 256, by omega⟩
      (by show 256 * (r.val / 512) + r.val % 256 = 256 * ((32 * (j.val / 128) + r.val / 32) / 8 % 4 / 2) + 32 * ((32 * (j.val / 128) + r.val / 32) % 8) + 16 * (r.val % 32 / 16) + r.val % 16; omega)]

end Cert.KernelIdeal.Hand
-- ==== Proof.Scales.lean ====
/- One element of the step's block scales: the quantized value times its row's scale, plus the offset. -/
module

public import proofs.«01_k».proof.Proof.Tiles

@[expose] public section

noncomputable section

namespace Cert.KernelIdeal.Hand

open Cert.KernelIdeal.Gen
open Idealize.ShloMosaic

/-- The sublane numbers. -/
abbrev subs : IVec S8x128 32 := iota .tc S8x128 32 [0] iota_S8x128_d0_w32

/-- A quarter of the sublane number, rounded down, as the program computes it. -/
def quarterRow : IVec S8x128 32 :=
  select (andi (cmpi .ne
      (subi (extui 32 (cmpi .sgt subs (broadcast S8x128 0#32)) natLt_1_32) (extui 32 (cmpi .slt subs (broadcast S8x128 0#32)) natLt_1_32))
      (broadcast S8x128 (Scalar.subi (Scalar.extui (Scalar.cmpi .sgt 4#32 0#32)) (Scalar.extui (Scalar.cmpi .slt 4#32 0#32)))))
    (cmpi .ne (remsi subs (broadcast S8x128 4#32)) (broadcast S8x128 0#32)))
    (subi (divsi subs (broadcast S8x128 4#32)) (broadcast S8x128 1#32)) (divsi subs (broadcast S8x128 4#32))

theorem quarterRow_at (s : Fin 8) (l : Fin 128) : quarterRow (ix2 s l) = BitVec.ofNat 32 (s.val / 4) := by
  have h : ∀ s : Fin 8, quarterRow (ix2 s 0) = BitVec.ofNat 32 (s.val / 4) := by decide +kernel
  exact h s

theorem cast8 (x : IVec S8x128 32) :
    shapeCast S8x128 (shapeCast S8x128x1 x shapeCasts_S8x128_S8x128x1) shapeCasts_S8x128x1_S8x128 = x := by
  funext j
  idx_vars j
  pointwise

/-- The scale rows gathered for the quarter `m` of a tile. -/
theorem quarter_gather (v62 : FVec Ideal S8x128 .f32) (m : Fin 4) (s : Fin 8) (l : Fin 128) :
    dynamicGather 0 v62 (shapeCast S8x128 (shapeCast S8x128x1 (addi (broadcast S8x128 (BitVec.ofNat 32 (2 * m.val))) quarterRow)
      shapeCasts_S8x128_S8x128x1) shapeCasts_S8x128x1_S8x128) (ix2 s l) = v62 (ix2 ⟨2 * m.val + s.val / 4, by omega⟩ l) := by
  have h : ∀ (m : Fin 4) (s : Fin 8), (BitVec.ofNat 32 (2 * m.val) + BitVec.ofNat 32 (s.val / 4)).toNat % 8 = 2 * m.val + s.val / 4 := by
    decide +kernel
  rw [cast8, gather_rows (by decide)]
  refine congrArg (fun z => v62 (ix2 z l)) (Fin.ext ?_)
  show (BitVec.ofNat 32 (2 * m.val) + quarterRow (ix2 s l)).toNat % 8 = _
  rw [quarterRow_at]
  exact h m s

/-- The slice of a quarter of the tile. -/
theorem quarter_slice (v73 : FVec Ideal S32x128 .f32) (m : Fin 4) (h : S32x128.Slices ![8 * m.val, 0] S8x128) (s : Fin 8) (l : Fin 128) :
    extractStridedSlice S8x128 ![8 * m.val, 0] v73 h (ix2 s l) = v73 (ix2 ⟨8 * m.val + s.val, by omega⟩ l) := by
  pointwise

theorem row_lt (m : Fin 4) (s : Fin 8) : 8 * m.val + s.val < 32 := by omega

/-- Four quarters stacked, at an index. -/
theorem stack_at (a b c d : FVec Ideal S8x128 .f32) (m : Fin 4) (s : Fin 8) (l : Fin 128) (r : Fin 32) (hr : r.val = 8 * m.val + s.val) :
    shapeCast S32x128 (truncf .bf16 (concatenate S32x128 0 [⟨S8x128, a⟩, ⟨S8x128, b⟩, ⟨S8x128, c⟩, ⟨S8x128, d⟩]
      concatenates_S8x128_S8x128_S8x128_S8x128_S32x128_d0) bitsLt_bf16_f32 : FVec Ideal S32x128 .bf16) shapeCasts_S32x128_S32x128 (ix2 r l)
      = (![a, b, c, d] m) (ix2 s l) := by
  have hs := s.isLt
  obtain rfl : r = ⟨8 * m.val + s.val, row_lt m s⟩ := Fin.ext hr
  pointwise
  fin_cases m
  · have e : (⟨8 * 0 + s.val, by omega⟩ : Fin 8) = s := Fin.ext (by show 8 * 0 + s.val = s.val; omega)
    simp [e]
  · have e : (⟨8 * 1 + s.val - 8, by omega⟩ : Fin 8) = s := Fin.ext (by show 8 * 1 + s.val - 8 = s.val; omega)
    simp [show ¬ 8 + s.val < 8 by omega, hs]
  · simp [show ¬ 16 + s.val < 8 by omega, show ¬ 16 + s.val - 8 < 8 by omega, show 16 + s.val - 8 - 8 < 8 by omega, hs]
    exact congrArg (fun z => c (ix2 z l)) (Fin.ext (by show 16 + s.val - 8 - 8 = s.val; omega))
  · simp [show ¬ 24 + s.val < 8 by omega, show ¬ 24 + s.val - 8 < 8 by omega, show ¬ 24 + s.val - 8 - 8 < 8 by omega, hs]
    exact congrArg (fun z => d (ix2 z l)) (Fin.ext (by show 24 + s.val - 8 - 8 - 8 = s.val; omega))

/-- A tile of block scales at an index. -/
theorem aOut_at (off : EReal) (v62 : FVec Ideal S8x128 .f32) (v73 : FVec Ideal S32x128 .f32) (r : Fin 32) (l : Fin 128) :
    aOut (F := Ideal) subs off v62 v73 (ix2 r l) = v73 (ix2 r l) * v62 (ix2 ⟨r.val / 4, by omega⟩ l) + off := by
  obtain ⟨m, s, hr⟩ : ∃ (m : Fin 4) (s : Fin 8), r.val = 8 * m.val + s.val :=
    ⟨⟨r.val / 8, by omega⟩, ⟨r.val % 8, by omega⟩, by show r.val = 8 * (r.val / 8) + r.val % 8; omega⟩
  have e1 : r = ⟨8 * m.val + s.val, row_lt m s⟩ := Fin.ext hr
  have e2 : (⟨r.val / 4, by omega⟩ : Fin 8) = ⟨2 * m.val + s.val / 4, by omega⟩ := Fin.ext (by show r.val / 4 = 2 * m.val + s.val / 4; omega)
  rw [e2]
  refine (stack_at _ _ _ _ m s l r hr).trans ?_
  subst e1
  fin_cases m
  · exact congrArg₂ (· + ·) (congrArg₂ (· * ·) (quarter_slice v73 0 slices_S32x128_o0_0_S8x128 s l) (quarter_gather v62 0 s l)) rfl
  · exact congrArg₂ (· + ·) (congrArg₂ (· * ·) (quarter_slice v73 1 slices_S32x128_o8_0_S8x128 s l) (quarter_gather v62 1 s l)) rfl
  · exact congrArg₂ (· + ·) (congrArg₂ (· * ·) (quarter_slice v73 2 slices_S32x128_o16_0_S8x128 s l) (quarter_gather v62 2 s l)) rfl
  · exact congrArg₂ (· + ·) (congrArg₂ (· * ·) (quarter_slice v73 3 slices_S32x128_o24_0_S8x128 s l) (quarter_gather v62 3 s l)) rfl

/-- The word of the scale's place in its row. -/
theorem scale_word : ∀ (t2 : Fin k0_t2_loop.trips) (s : Fin 8) (u : Fin 2),
    ((Scalar.muli 8#32 (Scalar.addi 0#32 (Scalar.muli (Scf.iv 0#32 1#32 t2) 1#32)) + BitVec.ofNat 32 s.val)
      + 64#32 * BitVec.ofNat 32 u.val).toNat = 8 * t2.val + s.val + 64 * u.val := by decide +kernel

theorem subs_at (s : Fin 8) (l : Fin 128) : subs (ix2 s l) = BitVec.ofNat 32 s.val := by
  have h : ∀ s : Fin 8, subs (ix2 s 0) = BitVec.ofNat 32 s.val := by decide +kernel
  exact h s

/-- A row broadcast down eight rows. -/
theorem row_bcast (x : FVec Ideal S1x128 .f32) (s : Fin 8) (l : Fin 128) :
    broadcastTo S8x128 (shapeCast S1x128 (shapeCast S1x128 x shapeCasts_S1x128_S1x128) shapeCasts_S1x128_S1x128) broadcasts_S1x128_S8x128 (ix2 s l)
      = x (ix2 0 l) := by
  pointwise

/-- The expanded scales of a trip. -/
theorem aScale_at (i : grid0.Coords) (x4 : Vec Ideal S28x128 .f32) (t1 : Fin k0_t1_loop.trips) (t2 : Fin k0_t2_loop.trips)
    (s : Fin 8) (l : Fin 128) (p : Fin 28) (q : Fin 128) (hp : p.val = 2 * (i 0).val + t1.val)
    (hq : q.val = 8 * t2.val + s.val + 64 * (l.val / 64)) :
    aScale i subs x4 t1 t2 (ix2 s l) = x4 (ix2 p q) := by
  have h := k0_off1_eq i t1
  unfold aScale k0_pay3
  show dynamicGather 1 _ (shapeCast S8x128 (shapeCast S8x128x1 _ shapeCasts_S8x128_S8x128x1) shapeCasts_S8x128x1_S8x128) (ix2 s l) = _
  rw [cast8, gather_lanes (by decide), row_bcast]
  refine ld_at x4 (k0_off1 i t1) (k0_off1_inb i t1) 0 _ p q (by rw [h, hp]; rfl) ?_
  rw [h]
  show 0 + ((Scalar.muli 8#32 (Scalar.addi 0#32 (Scalar.muli (Scf.iv 0#32 1#32 t2) 1#32)) + subs (ix2 s l))
      + 64#32 * k0_pay39 (ix2 s l)).toNat % 128 = q.val
  rw [pay39_at, subs_at, scale_word t2 s ⟨l.val / 64, by omega⟩, ← hq, Nat.zero_add]
  exact Nat.mod_eq_of_lt q.isLt

/-- Two halves side by side, as numbers. -/
theorem beside_at (x y : Vec Ideal S32x64 .i8) (r : Fin 32) (l : Fin 128) :
    k0_pay4 x y (ix2 r l) = FloatOps.sitofp (F := Ideal) .f32 (if h : l.val < 64 then x (ix2 r ⟨l.val, h⟩) else y (ix2 r ⟨l.val - 64, by omega⟩)) := by
  rw [k0_pay4]
  pointwise

/-- The quantized values of a trip. -/
theorem aQuant_at (x3 : Vec Ideal S1024x64 .i8) (t1 : Fin k0_t1_loop.trips) (t2 : Fin k0_t2_loop.trips)
    (r : Fin 32) (l : Fin 128) (p : Fin 1024) (q : Fin 64) (hp : p.val = 512 * t1.val + 32 * t2.val + 256 * (l.val / 64) + r.val)
    (hq : q.val = l.val % 64) :
    aQuant x3 t1 t2 (ix2 r l) = FloatOps.sitofp (F := Ideal) .f32 (x3 (ix2 p q)) := by
  have h2 := k0_off2_eq t1 t2
  have h3 := k0_off3_eq t1 t2
  unfold aQuant
  rw [beside_at]
  congr 1
  split
  · exact ld_at x3 (k0_off2 t1 t2) (k0_off2_inb t1 t2) r _ p q
      (by rw [h2]; show 512 * t1.val + 32 * t2.val + r.val = p.val; omega) (by rw [h2]; show 0 + l.val = q.val; omega)
  · exact ld_at x3 (k0_off3 t1 t2) (k0_off3_inb t1 t2) r _ p q
      (by rw [h3]; show 512 * t1.val + 32 * t2.val + 256 + r.val = p.val; omega) (by rw [h3]; show 0 + (l.val - 64) = q.val; omega)

/-- The offset every block scale is moved by. -/
def offset (x0 : Vec Ideal S1 .f32) : EReal := x0 (ix1 0)

/-- An element of the step's block scales: of row `r` of the block's rows and group `g`. -/
theorem stepA_at (i : grid0.Coords) (x0 : Vec Ideal S1 .f32) (x3 : Vec Ideal S1024x64 .i8) (x4 : Vec Ideal S28x128 .f32)
    (r : Fin 1024) (g : Fin 64) (ρ : Fin 512) (l : Fin 128) (hρ : ρ.val = 256 * (r.val / 512) + r.val % 256)
    (hl : l.val = 64 * (r.val / 256 % 2) + g.val) (p : Fin 28) (q : Fin 128) (hp : p.val = 2 * (i 0).val + r.val / 512)
    (hq : q.val = r.val % 512 / 4) :
    stepA i x0 x3 x4 (ix2 ρ l) = FloatOps.sitofp (F := Ideal) .f32 (x3 (ix2 r g)) * x4 (ix2 p q) + offset x0 := by
  unfold stepA aSpec aTile
  refine (congrArg _ (ix2_eq_valueIdx _ _).symm).trans ?_
  refine (aOut_at _ _ _ _ _).trans ?_
  refine congrArg₂ (· + ·) (congrArg₂ (· * ·) (aQuant_at x3 _ _ _ _ r g ?_ ?_) (aScale_at i x4 _ _ _ _ p q ?_ ?_)) ?_
  · show r.val = 512 * (ρ.val / 256) + 32 * (ρ.val % 256 / 32) + 256 * (l.val / 64) + ρ.val % 32
    omega
  · show g.val = l.val % 64
    omega
  · show p.val = 2 * (i 0).val + ρ.val / 256
    omega
  · show q.val = 8 * (ρ.val % 256 / 32) + ρ.val % 32 / 4 + 64 * (l.val / 64)
    omega
  · refine congrArg x0 (funext fun d => ?_)
    match d with
    | ⟨0, _⟩ => exact Fin.ext (by rfl)

end Cert.KernelIdeal.Hand
-- ==== Proof.Spec.lean ====
/- The mathematics both programs compute: gradients times expanded weights. -/
module

public import proofs.«01_k».proof.Proof.Codes

@[expose] public section

noncomputable section

namespace Cert.Spec

open Cert.KernelIdeal.Hand (codeVal lowCode highCode)
open Idealize.ShloMosaic

/-- The scale of group `g` of output row `o`: its quantized value times the row's scale, plus the offset. -/
def groupScale (q : IVec ⟨2, ![14336, 64]⟩ 8) (sc : FVec Ideal ⟨1, ![3584]⟩ .f32) (off : FVec Ideal ⟨1, ![1]⟩ .f32)
    (o : Fin 14336) (g : Fin 64) : EReal :=
  FloatOps.sitofp (F := Ideal) .f32 (q (ix2 o g)) * sc (ix1 ⟨o.val / 4, by omega⟩) + off (ix1 0)

/-- The weight of output row `o` and input column `c`: the low codes of a row stand for its first 2048 columns, the high
    codes for the others; a group is sixty-four columns. -/
def weight (w : IVec ⟨2, ![14336, 2048]⟩ 8) (q : IVec ⟨2, ![14336, 64]⟩ 8) (sc : FVec Ideal ⟨1, ![3584]⟩ .f32)
    (off : FVec Ideal ⟨1, ![1]⟩ .f32) (o : Fin 14336) (c : Fin 4096) : EReal :=
  if h : c.val < 2048 then codeVal (lowCode (w (ix2 o ⟨c.val, h⟩))) * groupScale q sc off o ⟨c.val / 64, by omega⟩
  else codeVal (highCode (w (ix2 o ⟨c.val - 2048, by omega⟩))) * groupScale q sc off o ⟨c.val / 64, by omega⟩

/-- The product of the gradients and the weights. -/
def product (dy : FVec Ideal ⟨3, ![1, 128, 14336]⟩ .bf16) (w : IVec ⟨2, ![14336, 2048]⟩ 8) (q : IVec ⟨2, ![14336, 64]⟩ 8)
    (sc : FVec Ideal ⟨1, ![3584]⟩ .f32) (off : FVec Ideal ⟨1, ![1]⟩ .f32) (row : Fin 128) (c : Fin 4096) : EReal :=
  ∑ o : Fin 14336, dy (ix3 0 row o) * weight w q sc off o c

/-- A sum over the rows, taken in fourteen blocks of 1024. -/
theorem sum_blocks (f : Fin 14336 → EReal) :
    ∑ o : Fin 14336, f o = ∑ k : Fin 14, ∑ r : Fin 1024, f ⟨1024 * k.val + r.val, by omega⟩ := by
  rw [← Finset.sum_product']
  refine (Fintype.sum_equiv (finProdFinEquiv (m := 14) (n := 1024)) _ _ fun x => ?_).symm
  refine congrArg f (Fin.ext ?_)
  show 1024 * x.1.val + x.2.val = x.2.val + 1024 * x.1.val
  omega

/-- The part of the product that the rows of block `k` contribute. -/
def part (dy : FVec Ideal ⟨3, ![1, 128, 14336]⟩ .bf16) (w : IVec ⟨2, ![14336, 2048]⟩ 8) (q : IVec ⟨2, ![14336, 64]⟩ 8)
    (sc : FVec Ideal ⟨1, ![3584]⟩ .f32) (off : FVec Ideal ⟨1, ![1]⟩ .f32) (row : Fin 128) (c : Fin 4096) (k : ℕ) : EReal :=
  if h : k < 14 then ∑ r : Fin 1024, dy (ix3 0 row ⟨1024 * k + r.val, by omega⟩) * weight w q sc off ⟨1024 * k + r.val, by omega⟩ c
  else 0

/-- The product is the sum of its fourteen parts. -/
theorem product_parts (dy : FVec Ideal ⟨3, ![1, 128, 14336]⟩ .bf16) (w : IVec ⟨2, ![14336, 2048]⟩ 8) (q : IVec ⟨2, ![14336, 64]⟩ 8)
    (sc : FVec Ideal ⟨1, ![3584]⟩ .f32) (off : FVec Ideal ⟨1, ![1]⟩ .f32) (row : Fin 128) (c : Fin 4096) :
    product dy w q sc off row c = ∑ k ∈ Finset.range 14, part dy w q sc off row c k := by
  rw [product, sum_blocks, Finset.sum_range]
  refine Finset.sum_congr rfl fun k _ => ?_
  rw [part, dif_pos k.isLt]

end Cert.Spec
-- ==== Proof.Accum.lean ====
/- One element of the accumulator after a grid step. -/
module

public import proofs.«01_k».proof.Proof.Scales
public import proofs.«01_k».proof.Proof.Spec

@[expose] public section

noncomputable section

namespace Cert.KernelIdeal.Hand

open Cert.KernelIdeal.Gen
open Idealize.ShloMosaic

/-- A block product at an index. -/
theorem block_product (dy : Vec Ideal S128x1024 .bf16) (w : Vec Ideal S1024x256 .bf16) (r : Fin 128) (j : Fin 256) :
    k0_pay34 dy w (ix2 r j) = ∑ κ : Fin 1024, dy (ix2 r κ) * w (ix2 κ j) := by
  rw [k0_pay34]
  pointwise

theorem block_cast (x : FVec Ideal S128x256 .f32) : shapeCast S128x256 x shapeCasts_S128x256_S128x256 = x := by
  funext j
  idx_vars j
  pointwise

/-- The accumulator after a step, at an index. -/
theorem accSpec_at (i : grid0.Coords) (dy : Vec Ideal S128x1024 .bf16) (wlo whi : Fin k0_t3_loop.trips → Vec Ideal S1024x256 .bf16)
    (prev : Vec Ideal S128x4096 .f32) (r : Fin 128) (c : Fin 4096) (n : Fin k0_t3_loop.trips) (hn : n.val = c.val % 2048 / 256)
    (j : Fin 256) (hj : j.val = c.val % 256) :
    accSpec i dy wlo whi prev (ix2 r c) = (if k0_cond1 i = 1#1 then (0 : EReal) else prev (ix2 r c))
      + ∑ κ : Fin 1024, dy (ix2 r κ) * (if c.val < 2048 then wlo n (ix2 κ j) else whi n (ix2 κ j)) := by
  have en : (⟨c.val % 2048 / 256, by rw [trips3]; omega⟩ : Fin k0_t3_loop.trips) = n := Fin.ext hn.symm
  have ej : (⟨c.val % 256, by omega⟩ : Fin 256) = j := Fin.ext hj.symm
  unfold accSpec
  show (if c.val < 2048 then accLo i dy (wlo ⟨c.val % 2048 / 256, _⟩) prev ⟨c.val % 2048 / 256, _⟩ (ValueIdx.ix2 r ⟨c.val % 256, _⟩)
    else accHi i dy (whi ⟨c.val % 2048 / 256, _⟩) prev ⟨c.val % 2048 / 256, _⟩ (ValueIdx.ix2 r ⟨c.val % 256, _⟩)) = _
  rw [en, ej, ← ix2_eq_valueIdx]
  by_cases hc : c.val < 2048
  · simp only [if_pos hc]
    unfold accLo
    split
    · rw [k0_pay35, block_cast, block_product, zero_add]
    · rw [k0_pay36, block_cast]
      refine congrArg₂ (· + ·) (congrArg prev ?_) (block_product dy _ r j)
      rw [ix2_eq_valueIdx]
      refine congrArg (ValueIdx.ix2 r) (Fin.ext ?_)
      show 256 * n.val + j.val = c.val
      omega
  · simp only [if_neg hc]
    unfold accHi
    split
    · rw [k0_pay38, block_cast, zero_add]
      exact block_product dy _ r j
    · rw [k0_pay1, block_cast]
      refine congrArg₂ (· + ·) (congrArg prev ?_) (block_product dy _ r j)
      rw [ix2_eq_valueIdx]
      refine congrArg (ValueIdx.ix2 r) (Fin.ext ?_)
      show 256 * n.val + 2048 + j.val = c.val
      omega

section Step

open Cert.Spec

variable {dy : FVec Ideal ⟨3, ![1, 128, 14336]⟩ .bf16} {w : IVec ⟨2, ![14336, 2048]⟩ 8} {q : IVec ⟨2, ![14336, 64]⟩ 8}
  {sc : FVec Ideal ⟨1, ![3584]⟩ .f32} {off : FVec Ideal ⟨1, ![1]⟩ .f32}
  {i : grid0.Coords} (k : Fin 14) {x0 : Vec Ideal S1 .f32} {x1 : Vec Ideal S128x1024 .bf16} {x2 : Vec Ideal S1024x2048 .i8}
  {x3 : Vec Ideal S1024x64 .i8} {x4 : Vec Ideal S28x128 .f32} {x5 : Vec Ideal S2x32x128 .i8}

/-- Block scales of a step are the scales of its rows. -/
theorem stepA_spec (hk : (i 0).val = k.val) (h0 : x0 (ix1 0) = off (ix1 0))
    (h3 : ∀ (r : Fin 1024) (g : Fin 64), x3 (ix2 r g) = q (ix2 ⟨1024 * k.val + r.val, by omega⟩ g))
    (h4 : ∀ (a : Fin 28) (b : Fin 128), x4 (ix2 a b) = sc (ix1 ⟨128 * a.val + b.val, by omega⟩))
    (r : Fin 1024) (g : Fin 64) (l : Fin 128) (hl : l.val = 64 * (r.val / 256 % 2) + g.val) :
    stepA i x0 x3 x4 (ix2 ⟨256 * (r.val / 512) + r.val % 256, by omega⟩ l)
      = groupScale q sc off ⟨1024 * k.val + r.val, by omega⟩ g := by
  rw [stepA_at i x0 x3 x4 r g _ l rfl hl ⟨2 * k.val + r.val / 512, by omega⟩ ⟨r.val % 512 / 4, by omega⟩ (by rw [hk]) rfl, h3, h4]
  unfold offset groupScale
  rw [h0]
  refine congrArg (fun z => FloatOps.sitofp (F := Ideal) .f32 (q (ix2 ⟨1024 * k.val + r.val, _⟩ g)) * sc (ix1 z) + off (ix1 0)) (Fin.ext ?_)
  show 128 * (2 * k.val + r.val / 512) + r.val % 512 / 4 = (1024 * k.val + r.val) / 4
  omega

/-- The accumulator after a step, from the operands the blocks are parts of. -/
theorem stepAcc_at (hk : (i 0).val = k.val) (ht : TableBytes (tabLo x5) (tabHi x5)) (h0 : x0 (ix1 0) = off (ix1 0))
    (h1 : ∀ (row : Fin 128) (r : Fin 1024), x1 (ix2 row r) = dy (ix3 0 row ⟨1024 * k.val + r.val, by omega⟩))
    (h2 : ∀ (r : Fin 1024) (c : Fin 2048), x2 (ix2 r c) = w (ix2 ⟨1024 * k.val + r.val, by omega⟩ c))
    (h3 : ∀ (r : Fin 1024) (g : Fin 64), x3 (ix2 r g) = q (ix2 ⟨1024 * k.val + r.val, by omega⟩ g))
    (h4 : ∀ (a : Fin 28) (b : Fin 128), x4 (ix2 a b) = sc (ix1 ⟨128 * a.val + b.val, by omega⟩))
    (prev : Vec Ideal S128x4096 .f32) (row : Fin 128) (c : Fin 4096) :
    stepAcc i x0 x1 x2 x3 x4 x5 prev (ix2 row c) = (if k0_cond1 i = 1#1 then (0 : EReal) else prev (ix2 row c))
      + ∑ r : Fin 1024, dy (ix3 0 row ⟨1024 * k.val + r.val, by omega⟩) * weight w q sc off ⟨1024 * k.val + r.val, by omega⟩ c := by
  unfold stepAcc
  rw [accSpec_at i x1 _ _ prev row c ⟨c.val % 2048 / 256, by rw [trips3]; omega⟩ rfl ⟨c.val % 256, by omega⟩ rfl]
  refine congrArg (_ + ·) (Finset.sum_congr rfl fun r _ => ?_)
  rw [h1]
  refine congrArg (_ * ·) ?_
  unfold weight
  by_cases hc : c.val < 2048
  · rw [if_pos hc, dif_pos hc, stepLo_at x2 x5 ht _ _ r _ ⟨c.val, hc⟩ (by show c.val = 256 * (c.val % 2048 / 256) + c.val % 256; omega), h2]
    exact congrArg (_ * ·) (stepA_spec k hk h0 h3 h4 r ⟨c.val / 64, by omega⟩ _ rfl)
  · rw [if_neg hc, dif_neg hc, stepHi_at x2 x5 ht _ _ r _ ⟨c.val - 2048, by omega⟩ (by show c.val - 2048 = 256 * (c.val % 2048 / 256) + c.val % 256; omega), h2]
    refine congrArg (_ * ·) (stepA_spec k hk h0 h3 h4 r ⟨c.val / 64, by omega⟩ _ ?_)
    show 64 * (r.val / 256 % 2) + (32 + (c.val - 2048) / 64) = 64 * (r.val / 256 % 2) + c.val / 64
    omega

end Step

end Cert.KernelIdeal.Hand
-- ==== Proof.Table.lean ====
/- The byte table the program carries is the code table. -/
module

public import proofs.«01_k».proof.Proof.Codes

@[expose] public section

noncomputable section

namespace Cert.KernelIdeal.Hand

open Cert.KernelIdeal.Gen
open Idealize.ShloMosaic

/-- The printed table of bytes holds the code table. -/
theorem table_words : ∀ (i : Fin 32) (l : Fin 128),
    lit0 (S2x32x128.rowMajor (ix3 1 i l)) ++ lit0 (S2x32x128.rowMajor (ix3 0 i l)) = codeWord ⟨i.val % 16, by omega⟩ := by
  decide +kernel

end Cert.KernelIdeal.Hand
-- ==== Proof.Blocks.lean ====
/- What each grid point's blocks hold, element by element, of the program's arguments. -/
module

public import proofs.«01_k».proof.Proof.Run
public import proofs.«01_k».proof.Proof.Accum
public import proofs.«01_k».proof.Proof.Table
public import Idealize.ShloMosaic.Lib.StableHlo.RunRead

@[expose] public section

noncomputable section

namespace Cert.KernelIdeal.Hand

open Cert.KernelIdeal.Gen
open Idealize.ShloMosaic Idealize.ShloMosaic.TcCoe
open Idealize.SL Idealize.SL.Sem

variable (m : (ℓ : Loc nD τ sig) → Buf (Elt Ideal) ℓ)

theorem V_v0 (c : Dev nD) : V m c main_v0
    = shapeCast S128x14336 (m ((c : Thread nD τ).loc main_arg0)) shapeCasts_S1x128x14336_S128x14336 := by
  unfold V
  after_reads_simp
  rfl

theorem V_v1 (c : Dev nD) : V m c main_v1
    = shapeCast S28x128 (m ((c : Thread nD τ).loc main_arg3)) shapeCasts_S3584_S28x128 := by
  unfold V
  after_reads_simp
  rfl

theorem V_table (c : Dev nD) : V m c main_c = fun i => lit0 (S2x32x128.rowMajor i) := by
  unfold V
  after_reads_simp
  rfl

theorem idx0 : ∀ t : Fin cfg0.N, win0_0.index t 0 = 0 := by decide +kernel
theorem idx1 : ∀ t : Fin cfg0.N, win0_1.index t 0 = 0 ∧ win0_1.index t 1 = t.val := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 ∧ win0_5.index t 2 = 0 := by decide +kernel

theorem dy_cast (x : Vec Ideal S1x128x14336 .bf16) (row : Fin 128) (o : Fin 14336) :
    shapeCast S128x14336 x shapeCasts_S1x128x14336_S128x14336 (ix2 row o) = x (ix3 0 row o) := by
  pointwise

theorem scale_cast (x : Vec Ideal S3584 .f32) (a : Fin 28) (b : Fin 128) :
    shapeCast S28x128 x shapeCasts_S3584_S28x128 (ix2 a b) = x (ix1 ⟨128 * a.val + b.val, by omega⟩) := by
  pointwise
  exact congrArg (fun z => x (ix1 z)) (Fin.ext (by show a.val * 128 + b.val = 128 * a.val + b.val; omega))

/-- The gradients' block. -/
theorem blk1 (c : Dev nD) (t : Fin cfg0.N) (row : Fin 128) (r : Fin 1024) (o : Fin 14336) (ho : o.val = 1024 * t.val + r.val) :
    (iblk m c 1 t : Vec Ideal S128x1024 .bf16) (ix2 row r) = m ((c : Thread nD τ).loc main_arg0) (ix3 0 row o) := by
  have hi := idx1 t
  unfold iblk
  rw [View.read_apply]
  show V m c main_v0 _ = _
  rw [V_v0]
  refine Eq.trans (congrArg (shapeCast S128x14336 (m ((c : Thread nD τ).loc main_arg0)) shapeCasts_S1x128x14336_S128x14336) (funext fun a => Fin.ext ?_)) (dy_cast _ row o)
  match a with
  | ⟨0, _⟩ => show win0_1.index t 0 * 128 + 1 * row.val = row.val; rw [hi.1]; omega
  | ⟨1, _⟩ => show win0_1.index t 1 * 1024 + 1 * r.val = o.val; rw [hi.2]; omega

/-- The packed codes' block. -/
theorem blk2 (c : Dev nD) (t : Fin cfg0.N) (r : Fin 1024) (j : Fin 2048) (o : Fin 14336) (ho : o.val = 1024 * t.val + r.val) :
    (iblk m c 2 t : Vec Ideal S1024x2048 .i8) (ix2 r j) = m ((c : Thread nD τ).loc main_arg1) (ix2 o j) := by
  have hi := idx2 t
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t 0 * 1024 + 1 * r.val = o.val; rw [hi.1]; omega
  | ⟨1, _⟩ => show win0_2.index t 1 * 2048 + 1 * j.val = j.val; rw [hi.2]; omega

/-- The quantized scales' block. -/
theorem blk3 (c : Dev nD) (t : Fin cfg0.N) (r : Fin 1024) (j : Fin 64) (o : Fin 14336) (ho : o.val = 1024 * t.val + r.val) :
    (iblk m c 3 t : Vec Ideal S1024x64 .i8) (ix2 r j) = m ((c : Thread nD τ).loc main_arg2) (ix2 o j) := by
  have hi := idx3 t
  unfold iblk
  rw [View.read_apply]
  show V m c main_arg2 _ = _
  rw [V_main_arg2]
  refine congrArg (m ((c : Thread nD τ).loc main_arg2)) (funext fun a => Fin.ext ?_)
  match a with
  | ⟨0, _⟩ => show win0_3.index t 0 * 1024 + 1 * r.val = o.val; rw [hi.1]; omega
  | ⟨1, _⟩ => show win0_3.index t 1 * 64 + 1 * j.val = j.val; rw [hi.2]; omega

/-- The scales, whole at every point. -/
theorem blk4 (c : Dev nD) (t : Fin cfg0.N) (a : Fin 28) (b : Fin 128) :
    (iblk m c 4 t : Vec Ideal S28x128 .f32) (ix2 a b) = m ((c : Thread nD τ).loc main_arg3) (ix1 ⟨128 * a.val + b.val, by omega⟩) := by
  have hi := idx4 t
  unfold iblk
  rw [View.read_apply]
  show V m c main_v1 _ = _
  rw [V_v1]
  refine Eq.trans (congrArg (shapeCast S28x128 (m ((c : Thread nD τ).loc main_arg3)) shapeCasts_S3584_S28x128) (funext fun d => Fin.ext ?_)) (scale_cast _ a b)
  match d with
  | ⟨0, _⟩ => show win0_4.index t 0 * 28 + 1 * a.val = a.val; rw [hi.1]; omega
  | ⟨1, _⟩ => show win0_4.index t 1 * 128 + 1 * b.val = b.val; rw [hi.2]; omega

/-- The offset. -/
theorem blk0 (c : Dev nD) (t : Fin cfg0.N) :
    (iblk m c 0 t : Vec Ideal S1 .f32) (ix1 0) = m ((c : Thread nD τ).loc main_arg4) (ix1 0) := by
  have hi := idx0 t
  unfold iblk
  rw [View.read_apply]
  show V m c main_arg4 _ = _
  rw [V_main_arg4]
  refine congrArg (m ((c : Thread nD τ).loc main_arg4)) (funext fun d => Fin.ext ?_)
  match d with
  | ⟨0, _⟩ => show win0_0.index t 0 * 1 + 1 * 0 = 0; rw [hi]

/-- The table, whole at every point. -/
theorem blk5 (c : Dev nD) (t : Fin cfg0.N) (b : Fin 2) (i : Fin 32) (l : Fin 128) :
    (iblk m c 5 t : Vec Ideal S2x32x128 .i8) (ix3 b i l) = lit0 (S2x32x128.rowMajor (ix3 b i l)) := by
  have hi := idx5 t
  unfold iblk
  rw [View.read_apply]
  show V m c main_c _ = _
  rw [V_table]
  refine congrArg (fun z => lit0 (S2x32x128.rowMajor z)) (funext fun d => Fin.ext ?_)
  match d with
  | ⟨0, _⟩ => show win0_5.index t 0 * 2 + 1 * b.val = b.val; rw [hi.1]; omega
  | ⟨1, _⟩ => show win0_5.index t 1 * 32 + 1 * i.val = i.val; rw [hi.2.1]; omega
  | ⟨2, _⟩ => show win0_5.index t 2 * 128 + 1 * l.val = l.val; rw [hi.2.2]; omega

theorem tab_cast (x : Vec Ideal S1x32x128 .i8) (i : Fin 32) (l : Fin 128) :
    shapeCast S32x128 x shapeCasts_S1x32x128_S32x128 (ix2 i l) = x (ix3 0 i l) := by
  pointwise

/-- So the step's two byte tables are the low and high bytes of the code table. -/
theorem tables (c : Dev nD) (t : Fin cfg0.N) : TableBytes (tabLo (iblk m c 5 t : Vec Ideal S2x32x128 .i8)) (tabHi (iblk m c 5 t : Vec Ideal S2x32x128 .i8)) := by
  intro i l
  unfold tabLo tabHi k0_pay42 k0_pay43
  refine Eq.trans (congrArg₂ (· ++ ·) (tab_cast _ i l) (tab_cast _ i l)) ?_
  refine Eq.trans (congrArg₂ (· ++ ·) ((congrArg (iblk m c 5 t : Vec Ideal S2x32x128 .i8) ?_).trans (blk5 m c t 1 i l))
    ((congrArg (iblk m c 5 t : Vec Ideal S2x32x128 .i8) ?_).trans (blk5 m c t 0 i l))) (table_words i l)
  all_goals
    funext d
    apply Fin.ext
    match d with
    | ⟨0, _⟩ => rfl
    | ⟨1, _⟩ => show 0 + 1 * i.val = i.val; omega
    | ⟨2, _⟩ => show 0 + 1 * l.val = l.val; omega

end Cert.KernelIdeal.Hand
-- ==== Proof.Value.lean ====
/- The result the run leaves: at every index the product of the gradients and the weights. -/
module

public import proofs.«01_k».proof.Proof.Blocks

@[expose] public section

set_option maxRecDepth 16384

noncomputable section

namespace Cert.KernelIdeal.Hand

open Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

theorem points : cfg0.N = 14 := by decide +kernel

theorem coord_eq : ∀ t : Fin cfg0.N, (grid0.coords t 0).val = t.val := by decide +kernel

/-- The product of the arguments of device `c`. -/
def goal (c : Dev nD) (row : Fin 128) (col : Fin 4096) : EReal :=
  Spec.product (m ((c : Thread nD τ).loc main_arg0)) (m ((c : Thread nD τ).loc main_arg1)) (m ((c : Thread nD τ).loc main_arg2))
    (m ((c : Thread nD τ).loc main_arg3)) (m ((c : Thread nD τ).loc main_arg4)) row col

/-- The part of the product of device `c` that the rows of step `k` contribute. -/
def part (c : Dev nD) (row : Fin 128) (col : Fin 4096) (k : ℕ) : EReal :=
  Spec.part (m ((c : Thread nD τ).loc main_arg0)) (m ((c : Thread nD τ).loc main_arg1)) (m ((c : Thread nD τ).loc main_arg2))
    (m ((c : Thread nD τ).loc main_arg3)) (m ((c : Thread nD τ).loc main_arg4)) row col k

/-- One step adds its part. -/
theorem stepAt_at (c : Dev nD) (t : Fin cfg0.N) (prev : Vec Ideal S128x4096 .f32) (row : Fin 128) (col : Fin 4096) :
    stepAt m c t prev (ix2 row col) = (if t.val = 0 then (0 : EReal) else prev (ix2 row col)) + part m c row col t.val := by
  have ht : t.val < 14 := lt_of_lt_of_eq t.isLt points
  unfold stepAt part
  rw [Spec.part, dif_pos ht]
  refine (stepAcc_at (k := ⟨t.val, ht⟩) (coord_eq t) (tables m c t) (blk0 m c t) (fun row r => blk1 m c t row r _ rfl)
    (fun r j => blk2 m c t r j _ rfl) (fun r j => blk3 m c t r j _ rfl) (fun a b => blk4 m c t a b) prev row col).trans ?_
  refine congrArg (· + _) ?_
  by_cases h : t.val = 0
  · rw [if_pos h, if_pos ((cond1_iff t).mpr h)]
  · rw [if_neg h, if_neg (mt (cond1_iff t).mp h)]

/-- The accumulator holds the parts of the steps so far. -/
theorem accAt_at (c : Dev nD) (row : Fin 128) (col : Fin 4096) : ∀ (n : ℕ) (h : n < cfg0.N),
    accAt m c n h (ix2 row col) = ∑ k ∈ Finset.range (n + 1), part m c row col k
  | 0, h => by
    rw [accAt, stepAt_at, if_pos rfl, zero_add, Finset.sum_range_one]
  | n + 1, h => by
    rw [accAt, stepAt_at, if_neg (Nat.succ_ne_zero n), accAt_at c row col n, Finset.sum_range_succ _ (n + 1)]

theorem last_lt : 13 < cfg0.N := by rw [points]; decide

/-- After the last step the accumulator holds the product. -/
theorem acc_last (c : Dev nD) (row : Fin 128) (col : Fin 4096) : accAt m c 13 last_lt (ix2 row col) = goal m c row col := by
  rw [accAt_at, goal, Spec.product_parts]
  rfl

/-- The result array. -/
def result (c : Dev nD) : Buf (Elt Ideal) ((c : Thread nD τ).loc main_v2) := k0_pay2 (accAt m c 13 last_lt)

theorem result_at (c : Dev nD) (row : Fin 128) (col : Fin 4096) :
    (result m c : Vec Ideal S128x4096 .bf16) (ix2 row col) = goal m c row col :=
  acc_last m c row col

theorem flush_iff : ∀ t : Fin cfg0.N, (cfg0.win 6).flush t = true ↔ t.val = 13 := by decide +kernel

theorem out_index : ∀ (t : Fin cfg0.N), win0_6.index t 0 = 0 ∧ win0_6.index t 1 = 0 := by decide +kernel

/-- The last point. -/
abbrev lastPt : Fin cfg0.N := ⟨13, last_lt⟩

theorem flushed_eq (c : Dev nD) (t : Fin cfg0.N) (hf : (cfg0.win 6).flush t = true) :
    (dats m 0 c).flushed 6 t = ((cfg0.win 6).blk t).view.read (Elt Ideal) (result m c) := by
  obtain rfl : t = lastPt := Fin.ext ((flush_iff t).mp hf)
  show (cfg0.win 6).cut (grid0.coords lastPt) ((dats m 0 c).after 6 lastPt) = _
  rw [after0_6]
  have hz' : (fun a => win0_6.index lastPt a * main_v2.ty.shape.size a) = fun _ => 0 := funext fun a => by
    have hi := out_index lastPt
    match a with
    | ⟨0, _⟩ => show win0_6.index lastPt 0 * _ = 0; rw [hi.1, Nat.zero_mul]
    | ⟨1, _⟩ => show win0_6.index lastPt 1 * _ = 0; rw [hi.2, Nat.zero_mul]
  exact (Memref.read_access_unit_zero (Elt Ideal) main_v2 hz' (fun a => by rw [congrFun hz' a]; simp) (result m c)).symm

/-- The result array ends at the last accumulator. -/
theorem final (c : Dev nD) : (dats m 0 c).arrAt 6 cfg0.N = result m c :=
  (dats m 0 c).arrAt_eq_of_cover 6 (result m c) (flushed_eq m c) fun i =>
    ⟨lastPt, (flush_iff lastPt).mpr rfl, by
      show i ∈ ((View.whole main_v2).slice (win0_6.rect lastPt)).set
      rw [View.set_slice_whole, Rect.mem_set_unit]
      intro a
      have h0 : (i 0 : Nat) < 128 := (i 0).isLt
      have h1 : (i 1 : Nat) < 4096 := (i 1).isLt
      match a with
      | ⟨0, _⟩ => show win0_6.index lastPt 0 * win0_6.size 0 ≤ (i 0 : Nat) ∧ (i 0 : Nat) < win0_6.index lastPt 0 * win0_6.size 0 + win0_6.xsize (grid0.coords lastPt) 0
                  rw [show win0_6.index lastPt 0 * win0_6.size 0 = 0 from by decide +kernel, show win0_6.xsize (grid0.coords lastPt) 0 = 128 from by decide +kernel]; omega
      | ⟨1, _⟩ => show win0_6.index lastPt 1 * win0_6.size 1 ≤ (i 1 : Nat) ∧ (i 1 : Nat) < win0_6.index lastPt 1 * win0_6.size 1 + win0_6.xsize (grid0.coords lastPt) 1
                  rw [show win0_6.index lastPt 1 * win0_6.size 1 = 0 from by decide +kernel, show win0_6.xsize (grid0.coords lastPt) 1 = 4096 from by decide +kernel]; omega⟩

end Cert.KernelIdeal.Hand
-- ==== Proof.RefTree.lean ====
/- The reference's choice of a code's value, and its scales, at an index. -/
module

public import proofs.«01_k».proof.Proof.Spec
public import proofs.«01_k».proof.Proof.Gen.ReferenceIdeal

@[expose] public section

noncomputable section

namespace Cert.ReferenceIdeal.Hand

open Cert.ReferenceIdeal.Gen
open Cert.KernelIdeal.Hand (codeVal codeWord lowCode highCode)
open Idealize.ShloMosaic

/-- One word at every place. -/
def word (b : BitVec 32) : IVec S14336x2048 32 := broadcastInDim S14336x2048 ![] bcast_S_S14336x2048 (constantI S_ 32 b)

/-- One value at every place. -/
def value (w : BitVec 16) : FVec Ideal S14336x2048 .bf16 :=
  broadcastInDim S14336x2048 ![] bcast_S_S14336x2048 (constant S_ .bf16 w)

/-- Where a bit of the codes is set, one choice, elsewhere another. -/
def choose (code : IVec S14336x2048 32) (b : BitVec 32) (x y : FVec Ideal S14336x2048 .bf16) : FVec Ideal S14336x2048 .bf16 :=
  select (cmpi .ne (andi code (word b)) (word 0#32)) x y

theorem choose_at (code : IVec S14336x2048 32) (b : BitVec 32) (x y : FVec Ideal S14336x2048 .bf16) (j : S14336x2048.Idx) :
    choose code b x y j = if (code j &&& b) = 0#32 then y j else x j := by
  show Scalar.select (BitVec.ofBool ((code j &&& b) != 0#32)) (x j) (y j) = _
  by_cases h : code j &&& b = 0#32
  · rw [h, if_pos rfl]; rfl
  · rw [if_neg h, show ((code j &&& b) != 0#32) = true from bne_iff_ne.mpr h]; rfl

/-- The values of the codes, bit by bit from the highest. -/
def values (code : IVec S14336x2048 32) : FVec Ideal S14336x2048 .bf16 :=
  choose code 8#32
    (choose code 4#32
      (choose code 2#32 (choose code 1#32 (value 0x3F80#16) (value 0x3F39#16)) (choose code 1#32 (value 0x3F10#16) (value 0x3EE2#16)))
      (choose code 2#32 (choose code 1#32 (value 0x3EAD#16) (value 0x3E7C#16)) (choose code 1#32 (value 0x3E25#16) (value 0x3DA3#16))))
    (choose code 4#32
      (choose code 2#32 (choose code 1#32 (value 0x0000#16) (value 0xBDBA#16)) (choose code 1#32 (value 0xBE3D#16) (value 0xBE92#16)))
      (choose code 2#32 (choose code 1#32 (value 0xBECA#16) (value 0xBF06#16)) (choose code 1#32 (value 0xBF32#16) (value 0xBF80#16))))

/-- The choice at a place whose code is `n` is the value of `n`. -/
theorem values_at (code : IVec S14336x2048 32) (j : S14336x2048.Idx) (n : Fin 16) (h : code j = BitVec.ofNat 32 n.val) :
    values code j = codeVal n := by
  have hv : ∀ w, value w j = Ideal.ofBits .bf16 w := fun w => rfl
  simp only [values, choose_at, hv, h]
  fin_cases n <;> rfl

/-- The low codes of the bytes. -/
def lowCodes (w : IVec S14336x2048 8) : IVec S14336x2048 32 := andi (extui 32 w natLt_8_32) (word 15#32)

/-- The high codes of the bytes. -/
def highCodes (w : IVec S14336x2048 8) : IVec S14336x2048 32 := Host.shrsi (extui 32 w natLt_8_32) (word 4#32)

theorem low_word : ∀ b : BitVec 8, (b.setWidth 32 &&& 15#32) = BitVec.ofNat 32 (lowCode b).val := by decide +kernel

theorem high_word : ∀ b : BitVec 8, IntOp.shrsi .host (b.setWidth 32) 4#32 = BitVec.ofNat 32 (highCode b).val := by decide +kernel

theorem low_at (w : IVec S14336x2048 8) (j : S14336x2048.Idx) : values (lowCodes w) j = codeVal (lowCode (w j)) :=
  values_at _ j _ (low_word (w j))

theorem high_at (w : IVec S14336x2048 8) (j : S14336x2048.Idx) : values (highCodes w) j = codeVal (highCode (w j)) :=
  values_at _ j _ (high_word (w j))

end Cert.ReferenceIdeal.Hand
-- ==== Proof.RefScales.lean ====
/- The reference's scales and its product, at an index. -/
module

public import proofs.«01_k».proof.Proof.RefTree
public import Idealize.ShloMosaic.Lib.IdealHost

@[expose] public section

noncomputable section

namespace Cert.ReferenceIdeal.Hand

open Cert.ReferenceIdeal.Gen
open Cert.KernelIdeal.Hand (codeVal codeWord lowCode highCode)
open Idealize.ShloMosaic

/-- The scales of the groups. -/
def scales (q : IVec S14336x64 8) (sc : FVec Ideal S3584 .f32) (off : FVec Ideal S1 .f32) : FVec Ideal S14336x64 .bf16 :=
  truncf .bf16 (shapeCast _ (addf (mulf (shapeCast _ (sitofp .f32 (extsi 32 q natLt_8_32)) shapeCasts_S14336x64_S3584x256)
    (broadcastInDim S3584x256 ![0, 1] bcast_S3584x1_S3584x256_0_1 (broadcastInDim S3584x1 ![0] bcast_S3584_S3584x1_0 sc)))
    (broadcastInDim S3584x256 ![] bcast_S_S3584x256 (shapeCast _ off shapeCasts_S1_S_))) shapeCasts_S3584x256_S14336x64) bitsLt_bf16_f32

/-- Sixty-four columns back to back with their rows: four rows of sixty-four are one of 256, and back. -/
theorem regroup_at (x : FVec Ideal S14336x64 .f32) (y : FVec Ideal S3584x256 .f32) (z : FVec Ideal S3584x256 .f32) (o : Fin 14336) (g : Fin 64) :
    shapeCast S14336x64 (addf (mulf (shapeCast S3584x256 x shapeCasts_S14336x64_S3584x256) y) z) shapeCasts_S3584x256_S14336x64 (ix2 o g)
      = x (ix2 o g) * y (ix2 ⟨o.val / 4, by omega⟩ ⟨o.val % 4 * 64 + g.val, by omega⟩)
        + z (ix2 ⟨o.val / 4, by omega⟩ ⟨o.val % 4 * 64 + g.val, by omega⟩) := by
  pointwise []

theorem row_scale_at (sc : FVec Ideal S3584 .f32) (a : Fin 3584) (b : Fin 256) :
    broadcastInDim S3584x256 ![0, 1] bcast_S3584x1_S3584x256_0_1 (broadcastInDim S3584x1 ![0] bcast_S3584_S3584x1_0 sc) (ix2 a b)
      = sc (ix1 a) := by
  pointwise []

theorem offset_at (off : FVec Ideal S1 .f32) (a : Fin 3584) (b : Fin 256) :
    broadcastInDim S3584x256 ![] bcast_S_S3584x256 (shapeCast S_ off shapeCasts_S1_S_) (ix2 a b) = off (ix1 0) := by
  pointwise []

/-- Widening a word keeps its value. -/
theorem wide_word (b : BitVec 8) : FloatOps.sitofp (F := Ideal) .f32 (b.signExtend 32) = FloatOps.sitofp (F := Ideal) .f32 b := by
  show (((b.signExtend 32).toInt : ℝ) : EReal) = ((b.toInt : ℝ) : EReal)
  rw [BitVec.toInt_signExtend_of_le (by decide)]

/-- The scale of a group. -/
theorem scales_at (q : IVec S14336x64 8) (sc : FVec Ideal S3584 .f32) (off : FVec Ideal S1 .f32) (o : Fin 14336) (g : Fin 64) :
    scales q sc off (ix2 o g) = Spec.groupScale q sc off o g := by
  refine (regroup_at _ _ _ o g).trans ?_
  rw [row_scale_at, offset_at, Spec.groupScale, ← wide_word]
  rfl

/-- A value times its group's scale: sixty-four columns to a group. -/
theorem scaled_at (t : FVec Ideal S14336x2048 .bf16) (s : FVec Ideal S14336x32 .bf16) (o : Fin 14336) (j : Fin 2048) :
    shapeCast S14336x2048 (mulf (shapeCast S14336x32x64 t shapeCasts_S14336x2048_S14336x32x64)
      (broadcastInDim S14336x32x64 ![0, 1, 2] bcast_S14336x32x1_S14336x32x64_0_1_2
        (broadcastInDim S14336x32x1 ![0, 1] bcast_S14336x32_S14336x32x1_0_1 s))) shapeCasts_S14336x32x64_S14336x2048 (ix2 o j)
      = t (ix2 o j) * s (ix2 o ⟨j.val / 64, by omega⟩) := by
  pointwise []

theorem low_groups_at (a : FVec Ideal S14336x64 .bf16) (o : Fin 14336) (g : Fin 32) :
    extractStridedSlice S14336x32 ![0, 0] a slices_S14336x64_S14336x32_0_0 (ix2 o g) = a (ix2 o ⟨g.val, by omega⟩) := by
  pointwise []

theorem high_groups_at (a : FVec Ideal S14336x64 .bf16) (o : Fin 14336) (g : Fin 32) :
    extractStridedSlice S14336x32 ![0, 32] a slices_S14336x64_S14336x32_0_32 (ix2 o g) = a (ix2 o ⟨32 + g.val, by omega⟩) := by
  pointwise []

/-- The product with one half of the weights. -/
theorem dot_at (dy : FVec Ideal S1x128x14336 .bf16) (b : FVec Ideal S14336x2048 .bf16) (row : Fin 128) (j : Fin 2048) :
    (Host.dotGeneral dot_S1x128x14336_S14336x2048_S1x128x2048_2_0_01_1_n_n none dy b : FVec Ideal S1x128x2048 .f32) (ix3 0 row j)
      = ∑ o : Fin 14336, dy (ix3 0 row o) * b (ix2 o j) := by
  pointwise []

/-- The two halves side by side. -/
theorem halves_at (a b : FVec Ideal S1x128x2048 .f32) (row : Fin 128) (c : Fin 4096) :
    shapeCast S128x4096 (truncf .bf16 (concatenate S1x128x4096 2 [⟨S1x128x2048, a⟩, ⟨S1x128x2048, b⟩]
      concatenates_S1x128x2048_S1x128x2048_S1x128x4096_d2) bitsLt_bf16_f32) shapeCasts_S1x128x4096_S128x4096 (ix2 row c)
      = if h : c.val < 2048 then a (ix3 0 row ⟨c.val, h⟩) else b (ix3 0 row ⟨c.val - 2048, by omega⟩) := by
  pointwise []

end Cert.ReferenceIdeal.Hand
-- ==== Proof.RefValue.lean ====
/- The reference's result at an index: the product of the gradients and the weights. -/
module

public import proofs.«01_k».proof.Proof.RefScales
public import proofs.«01_k».proof.Proof.Gen.ReferenceIdeal.Run

@[expose] public section

set_option maxRecDepth 16384

noncomputable section

namespace Cert.ReferenceIdeal.Hand

open Cert.ReferenceIdeal.Gen
open Cert.KernelIdeal.Hand (codeVal codeWord lowCode highCode)
open Idealize.ShloMosaic Idealize.ShloMosaic.TcCoe Idealize.SL.Sem

/-- The values times the scales of their groups. -/
def scaled (t : FVec Ideal S14336x2048 .bf16) (s : FVec Ideal S14336x32 .bf16) : FVec Ideal S14336x2048 .bf16 :=
  shapeCast S14336x2048 (mulf (shapeCast S14336x32x64 t shapeCasts_S14336x2048_S14336x32x64)
    (broadcastInDim S14336x32x64 ![0, 1, 2] bcast_S14336x32x1_S14336x32x64_0_1_2
      (broadcastInDim S14336x32x1 ![0, 1] bcast_S14336x32_S14336x32x1_0_1 s))) shapeCasts_S14336x32x64_S14336x2048

/-- The product with one half of the weights. -/
def dot (dy : FVec Ideal S1x128x14336 .bf16) (b : FVec Ideal S14336x2048 .bf16) : FVec Ideal S1x128x2048 .f32 :=
  Host.dotGeneral dot_S1x128x14336_S14336x2048_S1x128x2048_2_0_01_1_n_n none dy b

/-- The reference as a function of its arguments. -/
def output (dy : FVec Ideal S1x128x14336 .bf16) (w : IVec S14336x2048 8) (q : IVec S14336x64 8) (sc : FVec Ideal S3584 .f32)
    (off : FVec Ideal S1 .f32) : FVec Ideal S128x4096 .bf16 :=
  shapeCast S128x4096 (truncf .bf16 (concatenate S1x128x4096 2
    [⟨S1x128x2048, dot dy (scaled (values (lowCodes w)) (extractStridedSlice S14336x32 ![0, 0] (scales q sc off) slices_S14336x64_S14336x32_0_0))⟩,
     ⟨S1x128x2048, dot dy (scaled (values (highCodes w)) (extractStridedSlice S14336x32 ![0, 32] (scales q sc off) slices_S14336x64_S14336x32_0_32))⟩]
    concatenates_S1x128x2048_S1x128x2048_S1x128x4096_d2) bitsLt_bf16_f32) shapeCasts_S1x128x4096_S128x4096

/-- An element of the low half of the weights. -/
theorem low_weight (w : IVec S14336x2048 8) (q : IVec S14336x64 8) (sc : FVec Ideal S3584 .f32) (off : FVec Ideal S1 .f32)
    (o : Fin 14336) (c : Fin 4096) (h : c.val < 2048) :
    scaled (values (lowCodes w)) (extractStridedSlice S14336x32 ![0, 0] (scales q sc off) slices_S14336x64_S14336x32_0_0) (ix2 o ⟨c.val, h⟩)
      = Spec.weight w q sc off o c := by
  rw [scaled, scaled_at, low_at, low_groups_at, scales_at, Spec.weight, dif_pos h]

/-- An element of the high half of the weights. -/
theorem high_weight (w : IVec S14336x2048 8) (q : IVec S14336x64 8) (sc : FVec Ideal S3584 .f32) (off : FVec Ideal S1 .f32)
    (o : Fin 14336) (c : Fin 4096) (h : ¬ c.val < 2048) :
    scaled (values (highCodes w)) (extractStridedSlice S14336x32 ![0, 32] (scales q sc off) slices_S14336x64_S14336x32_0_32)
      (ix2 o ⟨c.val - 2048, by omega⟩) = Spec.weight w q sc off o c := by
  rw [scaled, scaled_at, high_at, high_groups_at, scales_at, Spec.weight, dif_neg h]
  refine congrArg (fun g => _ * Spec.groupScale q sc off o g) (Fin.ext ?_)
  show 32 + (c.val - 2048) / 64 = c.val / 64
  omega

/-- The reference computes the product. -/
theorem output_at (dy : FVec Ideal S1x128x14336 .bf16) (w : IVec S14336x2048 8) (q : IVec S14336x64 8) (sc : FVec Ideal S3584 .f32)
    (off : FVec Ideal S1 .f32) (row : Fin 128) (c : Fin 4096) :
    output dy w q sc off (ix2 row c) = Spec.product dy w q sc off row c := by
  refine (halves_at _ _ row c).trans ?_
  by_cases h : c.val < 2048
  · rw [dif_pos h, dot, dot_at]
    exact Finset.sum_congr rfl fun o _ => congrArg (_ * ·) (low_weight w q sc off o c h)
  · rw [dif_neg h, dot, dot_at]
    exact Finset.sum_congr rfl fun o _ => congrArg (_ * ·) (high_weight w q sc off o c h)

/-- The run's result is that function of the arguments. -/
theorem result_eq (m : (ℓ : Loc nD τ sig) → Buf (Elt Ideal) ℓ) (c : Dev nD) :
    Value.res_out0 m c = output (m ((c : Thread nD τ).loc main_arg0)) (m ((c : Thread nD τ).loc main_arg1))
      (m ((c : Thread nD τ).loc main_arg2)) (m ((c : Thread nD τ).loc main_arg3)) (m ((c : Thread nD τ).loc main_arg4)) := rfl

end Cert.ReferenceIdeal.Hand
-- ==== Proof.Algebraic.lean ====
/- The kernel and the reference leave the same result. -/
module

public import proofs.«01_k».proof.Defs
public import proofs.«01_k».proof.Proof.Value
public import proofs.«01_k».proof.Proof.RefValue

@[expose] public section

noncomputable section

namespace Cert

open Idealize.ShloMosaic Idealize.ShloMosaic.TcCoe
open Idealize.SL Idealize.SL.Sem

/-- The kernel ends with its result array at the last accumulator. -/
theorem kernel_result (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v2) = KernelIdeal.Hand.result m c) :=
  (θ_run _ _ _).mono (fun _ h c => ((h c).1 6).trans (KernelIdeal.Hand.final m c)) (KernelIdeal.Hand.run_main m ρ)

/-- Both results are the product of the arguments. -/
theorem results_agree (m : (ℓ : Loc KernelIdeal.nD KernelIdeal.τ KernelIdeal.sig) → Buf (Elt Ideal) ℓ) (c : Dev KernelIdeal.nD) :
    ReferenceIdeal.Hand.output (m ((c : Thread KernelIdeal.nD KernelIdeal.τ).loc KernelIdeal.main_arg0))
      (m ((c : Thread KernelIdeal.nD KernelIdeal.τ).loc KernelIdeal.main_arg1)) (m ((c : Thread KernelIdeal.nD KernelIdeal.τ).loc KernelIdeal.main_arg2))
      (m ((c : Thread KernelIdeal.nD KernelIdeal.τ).loc KernelIdeal.main_arg3)) (m ((c : Thread KernelIdeal.nD KernelIdeal.τ).loc KernelIdeal.main_arg4))
      = KernelIdeal.Hand.result m c := by
  funext j
  idx_vars j
  exact (ReferenceIdeal.Hand.output_at _ _ _ _ _ _ _).trans (KernelIdeal.Hand.result_at m c _ _).symm

theorem algebraic : algebraic_KernelIdeal_ReferenceIdeal (hKernelIdeal := KernelIdeal.Gen.facts) (hReferenceIdeal := ReferenceIdeal.Gen.facts) := by
  intro m g m' g' _ hagree
  refine ⟨fun c => KernelIdeal.Hand.result m c, ?_, ?_⟩
  · exact (θ_run _ _ _).mono (fun _ h c => ⟨h.1 c, h.2 c⟩) (θ_run_and (kernel_result m g) (KernelIdeal.Hand.unchanged m g))
  · refine (θ_run _ _ _).mono (fun _ h c => ⟨(h c).1.trans ?_, (h c).2⟩) (ReferenceIdeal.Value.run m' g')
    obtain ⟨h0, h1, h2, h3, h4⟩ := hagree c
    refine Eq.trans ?_ (results_agree m c)
    rw [← h0, ← h1, ← h2, ← h3, ← h4]
    exact ReferenceIdeal.Hand.result_eq m' c

end Cert
-- ==== Proof.lean ====
/- The claim. -/
module

public import proofs.«01_k».proof.Defs
public import proofs.«01_k».proof.Proof.Run
public import proofs.«01_k».proof.Proof.Bits.Run
public import proofs.«01_k».proof.Proof.Gen.ReferenceIdeal
public import proofs.«01_k».proof.Proof.Gen.ReferenceIdeal.Run
public import proofs.«01_k».proof.Proof.Algebraic
public import Idealize.ShloMosaic.Lib.Quiescent

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, fun m g _ =>
    (θ_run _ _ _).mono (fun r h => ⟨fun c => (h c).2, Idealize.ShloMosaic.sem_eq_zero_of_no_sems (by decide) r.2⟩) (Cert.ReferenceIdeal.Value.run m g),
  trivial, Cert.algebraic⟩

end Cert.Proof

end
